-- ==== Defs.lean ====
def Pre_Kernel [hPre_permutations : Cert.Pre_permutations.Facts] (m : (ℓ : Loc Cert.Kernel.nD Cert.Kernel.τ Cert.Kernel.sig) → Buf (Elt Bits) ℓ) : Prop :=
  ∀ c : Dev Cert.Kernel.nD,
    (Cert.Pre_permutations.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_permutations : Cert.Pre_permutations.Facts] (m : (ℓ : Loc Cert.KernelIdeal.nD Cert.KernelIdeal.τ Cert.KernelIdeal.sig) → Buf (Elt Ideal) ℓ) : Prop :=
  ∀ c : Dev Cert.KernelIdeal.nD,
    (Cert.Pre_permutations.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutations [hPre_permutations : Cert.Pre_permutations.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutations.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_permutations : Cert.Pre_permutations.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_permutations : Cert.Pre_permutations.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_permutations [hReferenceIdeal : Cert.ReferenceIdeal.Facts] [hPre_permutations : Cert.Pre_permutations.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutations m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_permutations : Cert.Pre_permutations.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_permutations : Cert.Pre_permutations.Facts),
    quiescent_Kernel (hKernel := hKernel) (hPre_permutations := hPre_permutations)
    ∧ quiescent_KernelIdeal (hKernelIdeal := hKernelIdeal) (hPre_permutations := hPre_permutations)
    ∧ quiescent_ReferenceIdeal (hReferenceIdeal := hReferenceIdeal)
    ∧ quiescent_ReferenceIdeal_pre_permutations (hReferenceIdeal := hReferenceIdeal) (hPre_permutations := hPre_permutations)
    ∧ preserves_Kernel_KernelIdeal
    ∧ algebraic_KernelIdeal_ReferenceIdeal (hKernelIdeal := hKernelIdeal) (hReferenceIdeal := hReferenceIdeal) (hPre_permutations := hPre_permutations)
-- ==== Pre_permutations.lean ====
abbrev S64x512x512x3 : Shape := ⟨4, ![64, 512, 512, 3]⟩
abbrev S1x1x768 : Shape := ⟨3, ![1, 1, 768]⟩
abbrev S64x1024 : Shape := ⟨2, ![64, 1024]⟩
abbrev S1024 : Shape := ⟨1, ![1024]⟩
abbrev S1x1024 : Shape := ⟨2, ![1, 1024]⟩
abbrev S_ : Shape := ⟨0, ![]⟩

class Facts : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  reducesTo_S64x1024_S_d0_1 : S64x1024.ReducesTo [0, 1] S_
  h_S_ : 0 < S_.numel

variable [Facts]

def comparator_i32_d1 : BitVec 32 → BitVec 32 → BitVec 1 :=
  fun l r =>
    let v1 := IntOp.cmpi .slt l r
    v1
def fn_sort {F : FTy → Type} [FloatOps F] (arg0 : IVec S64x1024 32) : IVec S64x1024 32 :=
  let v0 : IVec S64x1024 32 := (fun x => Host.sort S64x1024 1 comparator_i32_d1 x) arg0
  v0

def fn {F : FTy → Type} [FloatOps F] (main_arg0 : FVec F S64x512x512x3 .f32) (main_arg1 : FVec F S1x1x768 .f32) (main_arg2 : IVec S64x1024 32) : IVec S_ 1 :=
  let main_v0 : IVec S64x1024 32 := fn_sort (F := F) main_arg2
  let main_v1 : IVec S1024 32 := iotaInDim S1024 32 0
  let main_v2 : IVec S1x1024 32 := broadcastInDim S1x1024 ![1] bcast_S1024_S1x1024_1 main_v1
  let main_v3 : IVec S64x1024 32 := broadcastInDim S64x1024 ![0, 1] bcast_S1x1024_S64x1024_0_1 main_v2
  let main_v4 : IVec S64x1024 1 := cmpi .eq main_v0 main_v3
  let main_c : IVec S_ 1 := constantI S_ 1 1#1
  let main_v5 : IVec S_ 1 := (fun x v => Host.reduce IntOp.andi x v reducesTo_S64x1024_S_d0_1 h_S_) main_v4 main_c
  main_v5
-- ==== Kernel.lean ====
abbrev S64x512x512x3 : Shape := ⟨4, ![64, 512, 512, 3]⟩
abbrev S1x1x768 : Shape := ⟨3, ![1, 1, 768]⟩
abbrev S64x1024 : Shape := ⟨2, ![64, 1024]⟩
abbrev S64x32x32 : Shape := ⟨3, ![64, 32, 32]⟩
abbrev S8x256 : Shape := ⟨2, ![8, 256]⟩
abbrev S32x32 : Shape := ⟨2, ![32, 32]⟩
abbrev S16 : Shape := ⟨1, ![16]⟩
abbrev S_ : Shape := ⟨0, ![]⟩
abbrev S1x16 : Shape := ⟨2, ![1, 16]⟩
abbrev S1x32x32 : Shape := ⟨3, ![1, 32, 32]⟩
abbrev S16x48 : Shape := ⟨2, ![16, 48]⟩
abbrev S1x16x1x48 : Shape := ⟨4, ![1, 16, 1, 48]⟩
abbrev S32x16x32x48 : Shape := ⟨4, ![32, 16, 32, 48]⟩
abbrev S512x1536 : Shape := ⟨2, ![512, 1536]⟩
abbrev S512 : Shape := ⟨1, ![512]⟩
abbrev S512x1 : Shape := ⟨2, ![512, 1]⟩
abbrev S32 : Shape := ⟨1, ![32]⟩
abbrev S1x32 : Shape := ⟨2, ![1, 32]⟩
abbrev S512x32 : Shape := ⟨2, ![512, 32]⟩
abbrev S1536 : Shape := ⟨1, ![1536]⟩
abbrev S1x1536 : Shape := ⟨2, ![1, 1536]⟩
abbrev S32x1 : Shape := ⟨2, ![32, 1]⟩
abbrev S32x1536 : Shape := ⟨2, ![32, 1536]⟩
abbrev S64x512x1536 : Shape := ⟨3, ![64, 512, 1536]⟩
abbrev S1x512x1536 : Shape := ⟨3, ![1, 512, 1536]⟩

abbrev nBuf : Table → Nat
  | .hbm => 63
  | .local .tc .vmem => 9
  | .local .scVector .vmem => 2
  | _ => 0

abbrev bufTy : (tb : Table) → Fin (nBuf tb) → BufTy
  | .hbm, ⟨0, _⟩ => ⟨S64x512x512x3, .f32⟩
  | .hbm, ⟨1, _⟩ => ⟨S1x1x768, .f32⟩
  | .hbm, ⟨2, _⟩ => ⟨S64x1024, .i32⟩
  | .hbm, ⟨3, _⟩ => ⟨S64x32x32, .i32⟩
  | .hbm, ⟨4, _⟩ => ⟨S16x48, .f32⟩
  | .hbm, ⟨5, _⟩ => ⟨S1x16x1x48, .f32⟩
  | .hbm, ⟨6, _⟩ => ⟨S32x16x32x48, .f32⟩
  | .hbm, ⟨7, _⟩ => ⟨S512x1536, .f32⟩
  | .hbm, ⟨8, _⟩ => ⟨S512, .i32⟩
  | .hbm, ⟨9, _⟩ => ⟨S512x1, .i32⟩
  | .hbm, ⟨10, _⟩ => ⟨S_, .i32⟩
  | .hbm, ⟨11, _⟩ => ⟨S_, .i32⟩
  | .hbm, ⟨12, _⟩ => ⟨S512x1, .i32⟩
  | .hbm, ⟨13, _⟩ => ⟨S512x1, .i32⟩
  | .hbm, ⟨14, _⟩ => ⟨S512x1, .i32⟩
  | .hbm, ⟨15, _⟩ => ⟨S_, .i32⟩
  | .hbm, ⟨16, _⟩ => ⟨S512x1, .i32⟩
  | .hbm, ⟨17, _⟩ => ⟨S512x1, .i1⟩
  | .hbm, ⟨18, _⟩ => ⟨S512x1, .i32⟩
  | .hbm, ⟨19, _⟩ => ⟨S512x1, .i32⟩
  | .hbm, ⟨20, _⟩ => ⟨S_, .i32⟩
  | .hbm, ⟨21, _⟩ => ⟨S512x1, .i32⟩
  | .hbm, ⟨22, _⟩ => ⟨S512x1, .i1⟩
  | .hbm, ⟨23, _⟩ => ⟨S512x1, .i1⟩
  | .hbm, ⟨24, _⟩ => ⟨S_, .i32⟩
  | .hbm, ⟨25, _⟩ => ⟨S512x1, .i32⟩
  | .hbm, ⟨26, _⟩ => ⟨S512x1, .i32⟩
  | .hbm, ⟨27, _⟩ => ⟨S512x1, .i32⟩
  | .hbm, ⟨28, _⟩ => ⟨S32, .i32⟩
  | .hbm, ⟨29, _⟩ => ⟨S1x32, .i32⟩
  | .hbm, ⟨30, _⟩ => ⟨S512x32, .i32⟩
  | .hbm, ⟨31, _⟩ => ⟨S512x32, .i32⟩
  | .hbm, ⟨32, _⟩ => ⟨S512x32, .i1⟩
  | .hbm, ⟨33, _⟩ => ⟨S512x32, .bf16⟩
  | .hbm, ⟨34, _⟩ => ⟨S1536, .i32⟩
  | .hbm, ⟨35, _⟩ => ⟨S1x1536, .i32⟩
  | .hbm, ⟨36, _⟩ => ⟨S_, .i32⟩
  | .hbm, ⟨37, _⟩ => ⟨S_, .i32⟩
  | .hbm, ⟨38, _⟩ => ⟨S1x1536, .i32⟩
  | .hbm, ⟨39, _⟩ => ⟨S1x1536, .i32⟩
  | .hbm, ⟨40, _⟩ => ⟨S1x1536, .i32⟩
  | .hbm, ⟨41, _⟩ => ⟨S_, .i32⟩
  | .hbm, ⟨42, _⟩ => ⟨S1x1536, .i32⟩
  | .hbm, ⟨43, _⟩ => ⟨S1x1536, .i1⟩
  | .hbm, ⟨44, _⟩ => ⟨S1x1536, .i32⟩
  | .hbm, ⟨45, _⟩ => ⟨S1x1536, .i32⟩
  | .hbm, ⟨46, _⟩ => ⟨S_, .i32⟩
  | .hbm, ⟨47, _⟩ => ⟨S1x1536, .i32⟩
  | .hbm, ⟨48, _⟩ => ⟨S1x1536, .i1⟩
  | .hbm, ⟨49, _⟩ => ⟨S1x1536, .i1⟩
  | .hbm, ⟨50, _⟩ => ⟨S_, .i32⟩
  | .hbm, ⟨51, _⟩ => ⟨S1x1536, .i32⟩
  | .hbm, ⟨52, _⟩ => ⟨S1x1536, .i32⟩
  | .hbm, ⟨53, _⟩ => ⟨S1x1536, .i32⟩
  | .hbm, ⟨54, _⟩ => ⟨S32, .i32⟩
  | .hbm, ⟨55, _⟩ => ⟨S32x1, .i32⟩
  | .hbm, ⟨56, _⟩ => ⟨S32x1536, .i32⟩
  | .hbm, ⟨57, _⟩ => ⟨S32x1536, .i32⟩
  | .hbm, ⟨58, _⟩ => ⟨S32x1536, .i1⟩
  | .hbm, ⟨59, _⟩ => ⟨S32x1536, .bf16⟩
  | .hbm, ⟨60, _⟩ => ⟨S64x512x1536, .f32⟩
  | .hbm, ⟨61, _⟩ => ⟨S64x512x1536, .f32⟩
  | .hbm, ⟨62, _⟩ => ⟨S64x512x512x3, .f32⟩
  | .local .tc .vmem, ⟨0, _⟩ => ⟨S1x32x32, .i32⟩
  | .local .tc .vmem, ⟨1, _⟩ => ⟨S1x32x32, .i32⟩
  | .local .tc .vmem, ⟨2, _⟩ => ⟨S1x512x1536, .f32⟩
  | .local .tc .vmem, ⟨3, _⟩ => ⟨S1x512x1536, .f32⟩
  | .local .tc .vmem, ⟨4, _⟩ => ⟨S512x1536, .f32⟩
  | .local .tc .vmem, ⟨5, _⟩ => ⟨S512x32, .bf16⟩
  | .local .tc .vmem, ⟨6, _⟩ => ⟨S32x1536, .bf16⟩
  | .local .tc .vmem, ⟨7, _⟩ => ⟨S1x512x1536, .f32⟩
  | .local .tc .vmem, ⟨8, _⟩ => ⟨S1x512x1536, .f32⟩
  | .local .scVector .vmem, ⟨0, _⟩ => ⟨S8x256, .i32⟩
  | .local .scVector .vmem, ⟨1, _⟩ => ⟨S32x32, .i32⟩
  | _, _ => ⟨S64x512x512x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c8_i32_8 : BitVec 32 := 8#32
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi v5 c8_i32
  let c0_i32_6 : BitVec 32 := 0#32
  let v19 : BitVec 1 := Scalar.cmpi .ne v18 c0_i32_6
  let v20 : BitVec 1 := Scalar.andi v17 v19
  let v6 : BitVec 32 := Scalar.divsi v5 c8_i32
  let c1_i32_7 : BitVec 32 := 1#32
  let v21 : BitVec 32 := Scalar.subi v6 c1_i32_7
  let v22 : BitVec 32 := Scalar.select v20 v21 v6
  let v23 : BitVec 32 := Scalar.muli c8_i32_8 v22
  let c768_i32_r0 : BitVec 32 := 768#32
  ![v23.toNat, 768]
def k0_off2 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v162 : Index := Scalar.indexCast v33
  let c0_113 : Index := 0#32
  ![v162.toNat, 0]

def k0_chk1 (v165 : IVec S16 32) (v167 : IVec S16 32) : Prop :=
  (∀ a x, ((![v165, v167] : Fin 2 → IVec S16 32) a x).toNat < S32x32.size a)
theorem k0_idx1_inb : ∀ (v165 : IVec S16 32) (v167 : IVec S16 32) (k0_hw1 : k0_chk1 v165 v167), ∀ a x, ((![v165, v167] : Fin 2 → IVec S16 32) a x).toNat < S32x32.size a := fun v165 v167 k0_hw1 => k0_hw1
def k0_off3 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v168 : Index := Scalar.indexCast v33
  let c16_116 : Index := 16#32
  ![v168.toNat, 16]

def k0_chk2 (v171 : IVec S16 32) (v173 : IVec S16 32) : Prop :=
  (∀ a x, ((![v171, v173] : Fin 2 → IVec S16 32) a x).toNat < S32x32.size a)
theorem k0_idx2_inb : ∀ (v171 : IVec S16 32) (v173 : IVec S16 32) (k0_hw2 : k0_chk2 v171 v173), ∀ a x, ((![v171, v173] : Fin 2 → IVec S16 32) a x).toNat < S32x32.size a := fun v171 v173 k0_hw2 => k0_hw2
def k0_off4 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v174 : Index := Scalar.indexCast v33
  let c32 : Index := 32#32
  ![v174.toNat, 32]

def k0_chk3 (v177 : IVec S16 32) (v179 : IVec S16 32) : Prop :=
  (∀ a x, ((![v177, v179] : Fin 2 → IVec S16 32) a x).toNat < S32x32.size a)
theorem k0_idx3_inb : ∀ (v177 : IVec S16 32) (v179 : IVec S16 32) (k0_hw3 : k0_chk3 v177 v179), ∀ a x, ((![v177, v179] : Fin 2 → IVec S16 32) a x).toNat < S32x32.size a := fun v177 v179 k0_hw3 => k0_hw3
def k0_off5 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v180 : Index := Scalar.indexCast v33
  let c48 : Index := 48#32
  ![v180.toNat, 48]

def k0_chk4 (v183 : IVec S16 32) (v185 : IVec S16 32) : Prop :=
  (∀ a x, ((![v183, v185] : Fin 2 → IVec S16 32) a x).toNat < S32x32.size a)
theorem k0_idx4_inb : ∀ (v183 : IVec S16 32) (v185 : IVec S16 32) (k0_hw4 : k0_chk4 v183 v185), ∀ a x, ((![v183, v185] : Fin 2 → IVec S16 32) a x).toNat < S32x32.size a := fun v183 v185 k0_hw4 => k0_hw4
def k0_off6 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v186 : Index := Scalar.indexCast v33
  let c64 : Index := 64#32
  ![v186.toNat, 64]

def k0_chk5 (v189 : IVec S16 32) (v191 : IVec S16 32) : Prop :=
  (∀ a x, ((![v189, v191] : Fin 2 → IVec S16 32) a x).toNat < S32x32.size a)
theorem k0_idx5_inb : ∀ (v189 : IVec S16 32) (v191 : IVec S16 32) (k0_hw5 : k0_chk5 v189 v191), ∀ a x, ((![v189, v191] : Fin 2 → IVec S16 32) a x).toNat < S32x32.size a := fun v189 v191 k0_hw5 => k0_hw5
def k0_off7 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v192 : Index := Scalar.indexCast v33
  let c80 : Index := 80#32
  ![v192.toNat, 80]

def k0_chk6 (v195 : IVec S16 32) (v197 : IVec S16 32) : Prop :=
  (∀ a x, ((![v195, v197] : Fin 2 → IVec S16 32) a x).toNat < S32x32.size a)
theorem k0_idx6_inb : ∀ (v195 : IVec S16 32) (v197 : IVec S16 32) (k0_hw6 : k0_chk6 v195 v197), ∀ a x, ((![v195, v197] : Fin 2 → IVec S16 32) a x).toNat < S32x32.size a := fun v195 v197 k0_hw6 => k0_hw6
def k0_off8 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v198 : Index := Scalar.indexCast v33
  let c96 : Index := 96#32
  ![v198.toNat, 96]

def k0_chk7 (v201 : IVec S16 32) (v203 : IVec S16 32) : Prop :=
  (∀ a x, ((![v201, v203] : Fin 2 → IVec S16 32) a x).toNat < S32x32.size a)
theorem k0_idx7_inb : ∀ (v201 : IVec S16 32) (v203 : IVec S16 32) (k0_hw7 : k0_chk7 v201 v203), ∀ a x, ((![v201, v203] : Fin 2 → IVec S16 32) a x).toNat < S32x32.size a := fun v201 v203 k0_hw7 => k0_hw7
def k0_off9 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v204 : Index := Scalar.indexCast v33
  let c112 : Index := 112#32
  ![v204.toNat, 112]

def k0_chk8 (v207 : IVec S16 32) (v209 : IVec S16 32) : Prop :=
  (∀ a x, ((![v207, v209] : Fin 2 → IVec S16 32) a x).toNat < S32x32.size a)
theorem k0_idx8_inb : ∀ (v207 : IVec S16 32) (v209 : IVec S16 32) (k0_hw8 : k0_chk8 v207 v209), ∀ a x, ((![v207, v209] : Fin 2 → IVec S16 32) a x).toNat < S32x32.size a := fun v207 v209 k0_hw8 => k0_hw8
def k0_off10 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v210 : Index := Scalar.indexCast v33
  let c128 : Index := 128#32
  ![v210.toNat, 128]

def k0_chk9 (v213 : IVec S16 32) (v215 : IVec S16 32) : Prop :=
  (∀ a x, ((![v213, v215] : Fin 2 → IVec S16 32) a x).toNat < S32x32.size a)
theorem k0_idx9_inb : ∀ (v213 : IVec S16 32) (v215 : IVec S16 32) (k0_hw9 : k0_chk9 v213 v215), ∀ a x, ((![v213, v215] : Fin 2 → IVec S16 32) a x).toNat < S32x32.size a := fun v213 v215 k0_hw9 => k0_hw9
def k0_off11 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v216 : Index := Scalar.indexCast v33
  let c144 : Index := 144#32
  ![v216.toNat, 144]

def k0_chk10 (v219 : IVec S16 32) (v221 : IVec S16 32) : Prop :=
  (∀ a x, ((![v219, v221] : Fin 2 → IVec S16 32) a x).toNat < S32x32.size a)
theorem k0_idx10_inb : ∀ (v219 : IVec S16 32) (v221 : IVec S16 32) (k0_hw10 : k0_chk10 v219 v221), ∀ a x, ((![v219, v221] : Fin 2 → IVec S16 32) a x).toNat < S32x32.size a := fun v219 v221 k0_hw10 => k0_hw10
def k0_off12 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v222 : Index := Scalar.indexCast v33
  let c160 : Index := 160#32
  ![v222.toNat, 160]

def k0_chk11 (v225 : IVec S16 32) (v227 : IVec S16 32) : Prop :=
  (∀ a x, ((![v225, v227] : Fin 2 → IVec S16 32) a x).toNat < S32x32.size a)
theorem k0_idx11_inb : ∀ (v225 : IVec S16 32) (v227 : IVec S16 32) (k0_hw11 : k0_chk11 v225 v227), ∀ a x, ((![v225, v227] : Fin 2 → IVec S16 32) a x).toNat < S32x32.size a := fun v225 v227 k0_hw11 => k0_hw11
def k0_off13 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v228 : Index := Scalar.indexCast v33
  let c176 : Index := 176#32
  ![v228.toNat, 176]

def k0_chk12 (v231 : IVec S16 32) (v233 : IVec S16 32) : Prop :=
  (∀ a x, ((![v231, v233] : Fin 2 → IVec S16 32) a x).toNat < S32x32.size a)
theorem k0_idx12_inb : ∀ (v231 : IVec S16 32) (v233 : IVec S16 32) (k0_hw12 : k0_chk12 v231 v233), ∀ a x, ((![v231, v233] : Fin 2 → IVec S16 32) a x).toNat < S32x32.size a := fun v231 v233 k0_hw12 => k0_hw12
def k0_off14 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v234 : Index := Scalar.indexCast v33
  let c192 : Index := 192#32
  ![v234.toNat, 192]

def k0_chk13 (v237 : IVec S16 32) (v239 : IVec S16 32) : Prop :=
  (∀ a x, ((![v237, v239] : Fin 2 → IVec S16 32) a x).toNat < S32x32.size a)
theorem k0_idx13_inb : ∀ (v237 : IVec S16 32) (v239 : IVec S16 32) (k0_hw13 : k0_chk13 v237 v239), ∀ a x, ((![v237, v239] : Fin 2 → IVec S16 32) a x).toNat < S32x32.size a := fun v237 v239 k0_hw13 => k0_hw13
def k0_off15 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v240 : Index := Scalar.indexCast v33
  let c208 : Index := 208#32
  ![v240.toNat, 208]

def k0_chk14 (v243 : IVec S16 32) (v245 : IVec S16 32) : Prop :=
  (∀ a x, ((![v243, v245] : Fin 2 → IVec S16 32) a x).toNat < S32x32.size a)
theorem k0_idx14_inb : ∀ (v243 : IVec S16 32) (v245 : IVec S16 32) (k0_hw14 : k0_chk14 v243 v245), ∀ a x, ((![v243, v245] : Fin 2 → IVec S16 32) a x).toNat < S32x32.size a := fun v243 v245 k0_hw14 => k0_hw14
def k0_off16 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v246 : Index := Scalar.indexCast v33
  let c224 : Index := 224#32
  ![v246.toNat, 224]

def k0_chk15 (v249 : IVec S16 32) (v251 : IVec S16 32) : Prop :=
  (∀ a x, ((![v249, v251] : Fin 2 → IVec S16 32) a x).toNat < S32x32.size a)
theorem k0_idx15_inb : ∀ (v249 : IVec S16 32) (v251 : IVec S16 32) (k0_hw15 : k0_chk15 v249 v251), ∀ a x, ((![v249, v251] : Fin 2 → IVec S16 32) a x).toNat < S32x32.size a := fun v249 v251 k0_hw15 => k0_hw15
def k0_off17 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c8_i32_9 : BitVec 32 := 8#32
  let c0_i32_10 : BitVec 32 := 0#32
  let v24 : BitVec 1 := Scalar.cmpi .eq c8_i32_9 c0_i32_10
  let c1_i32_11 : BitVec 32 := 1#32
  let v25 : BitVec 32 := Scalar.select v24 c1_i32_11 c8_i32_9
  let v26 : BitVec 32 := Scalar.remsi v5 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v252 : Index := Scalar.indexCast v33
  let c240 : Index := 240#32
  ![v252.toNat, 240]

def k0_chk16 (v255 : IVec S16 32) (v257 : IVec S16 32) : Prop :=
  (∀ a x, ((![v255, v257] : Fin 2 → IVec S16 32) a x).toNat < S32x32.size a)
theorem k0_idx16_inb : ∀ (v255 : IVec S16 32) (v257 : IVec S16 32) (k0_hw16 : k0_chk16 v255 v257), ∀ a x, ((![v255, v257] : Fin 2 → IVec S16 32) a x).toNat < S32x32.size a := fun v255 v257 k0_hw16 => k0_hw16
def k0_off18 (i : grid0.Coords) : Fin 3 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let c0_i32_1 : BitVec 32 := 0#32
  let v5 : BitVec 32 := Scalar.addi v4 c0_i32_1
  let c0_i32_339_r1 : BitVec 32 := 0#32
  let c0_i32_340_r1 : BitVec 32 := 0#32
  ![v5.toNat, 0, 0]
def k0_off19 (i : grid0.Coords) : Fin 2 → Nat :=
  let c8_i32_156 : BitVec 32 := 8#32
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c0_i32_150 : BitVec 32 := 0#32
  let v261 : BitVec 1 := Scalar.cmpi .sgt v259 c0_i32_150
  let v262 : BitVec 32 := Scalar.extui v261
  let c0_i32_151 : BitVec 32 := 0#32
  let v263 : BitVec 1 := Scalar.cmpi .slt v259 c0_i32_151
  let v264 : BitVec 32 := Scalar.extui v263
  let v265 : BitVec 32 := Scalar.subi v262 v264
  let c8_i32_149 : BitVec 32 := 8#32
  let c0_i32_152 : BitVec 32 := 0#32
  let v266 : BitVec 1 := Scalar.cmpi .sgt c8_i32_149 c0_i32_152
  let v267 : BitVec 32 := Scalar.extui v266
  let c0_i32_153 : BitVec 32 := 0#32
  let v268 : BitVec 1 := Scalar.cmpi .slt c8_i32_149 c0_i32_153
  let v269 : BitVec 32 := Scalar.extui v268
  let v270 : BitVec 32 := Scalar.subi v267 v269
  let v271 : BitVec 1 := Scalar.cmpi .ne v265 v270
  let v272 : BitVec 32 := Scalar.remsi v259 c8_i32_149
  let c0_i32_154 : BitVec 32 := 0#32
  let v273 : BitVec 1 := Scalar.cmpi .ne v272 c0_i32_154
  let v274 : BitVec 1 := Scalar.andi v271 v273
  let v260 : BitVec 32 := Scalar.divsi v259 c8_i32_149
  let c1_i32_155 : BitVec 32 := 1#32
  let v275 : BitVec 32 := Scalar.subi v260 c1_i32_155
  let v276 : BitVec 32 := Scalar.select v274 v275 v260
  let v277 : BitVec 32 := Scalar.muli c8_i32_156 v276
  let c768_i32_r2 : BitVec 32 := 768#32
  ![v277.toNat, 768]
def k0_off20 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v416 : Index := Scalar.indexCast v287
  let c0_291 : Index := 0#32
  ![v416.toNat, 0]

def k0_chk17 (v419 : IVec S16 32) (v421 : IVec S16 32) : Prop :=
  (∀ a x, ((![v419, v421] : Fin 2 → IVec S16 32) a x).toNat < S32x32.size a)
theorem k0_idx17_inb : ∀ (v419 : IVec S16 32) (v421 : IVec S16 32) (k0_hw17 : k0_chk17 v419 v421), ∀ a x, ((![v419, v421] : Fin 2 → IVec S16 32) a x).toNat < S32x32.size a := fun v419 v421 k0_hw17 => k0_hw17
def k0_off21 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v422 : Index := Scalar.indexCast v287
  let c16_294 : Index := 16#32
  ![v422.toNat, 16]

def k0_chk18 (v425 : IVec S16 32) (v427 : IVec S16 32) : Prop :=
  (∀ a x, ((![v425, v427] : Fin 2 → IVec S16 32) a x).toNat < S32x32.size a)
theorem k0_idx18_inb : ∀ (v425 : IVec S16 32) (v427 : IVec S16 32) (k0_hw18 : k0_chk18 v425 v427), ∀ a x, ((![v425, v427] : Fin 2 → IVec S16 32) a x).toNat < S32x32.size a := fun v425 v427 k0_hw18 => k0_hw18
def k0_off22 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v428 : Index := Scalar.indexCast v287
  let c32_297 : Index := 32#32
  ![v428.toNat, 32]

def k0_chk19 (v431 : IVec S16 32) (v433 : IVec S16 32) : Prop :=
  (∀ a x, ((![v431, v433] : Fin 2 → IVec S16 32) a x).toNat < S32x32.size a)
theorem k0_idx19_inb : ∀ (v431 : IVec S16 32) (v433 : IVec S16 32) (k0_hw19 : k0_chk19 v431 v433), ∀ a x, ((![v431, v433] : Fin 2 → IVec S16 32) a x).toNat < S32x32.size a := fun v431 v433 k0_hw19 => k0_hw19
def k0_off23 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v434 : Index := Scalar.indexCast v287
  let c48_300 : Index := 48#32
  ![v434.toNat, 48]

def k0_chk20 (v437 : IVec S16 32) (v439 : IVec S16 32) : Prop :=
  (∀ a x, ((![v437, v439] : Fin 2 → IVec S16 32) a x).toNat < S32x32.size a)
theorem k0_idx20_inb : ∀ (v437 : IVec S16 32) (v439 : IVec S16 32) (k0_hw20 : k0_chk20 v437 v439), ∀ a x, ((![v437, v439] : Fin 2 → IVec S16 32) a x).toNat < S32x32.size a := fun v437 v439 k0_hw20 => k0_hw20
def k0_off24 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v440 : Index := Scalar.indexCast v287
  let c64_303 : Index := 64#32
  ![v440.toNat, 64]

def k0_chk21 (v443 : IVec S16 32) (v445 : IVec S16 32) : Prop :=
  (∀ a x, ((![v443, v445] : Fin 2 → IVec S16 32) a x).toNat < S32x32.size a)
theorem k0_idx21_inb : ∀ (v443 : IVec S16 32) (v445 : IVec S16 32) (k0_hw21 : k0_chk21 v443 v445), ∀ a x, ((![v443, v445] : Fin 2 → IVec S16 32) a x).toNat < S32x32.size a := fun v443 v445 k0_hw21 => k0_hw21
def k0_off25 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v446 : Index := Scalar.indexCast v287
  let c80_306 : Index := 80#32
  ![v446.toNat, 80]

def k0_chk22 (v449 : IVec S16 32) (v451 : IVec S16 32) : Prop :=
  (∀ a x, ((![v449, v451] : Fin 2 → IVec S16 32) a x).toNat < S32x32.size a)
theorem k0_idx22_inb : ∀ (v449 : IVec S16 32) (v451 : IVec S16 32) (k0_hw22 : k0_chk22 v449 v451), ∀ a x, ((![v449, v451] : Fin 2 → IVec S16 32) a x).toNat < S32x32.size a := fun v449 v451 k0_hw22 => k0_hw22
def k0_off26 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v452 : Index := Scalar.indexCast v287
  let c96_309 : Index := 96#32
  ![v452.toNat, 96]

def k0_chk23 (v455 : IVec S16 32) (v457 : IVec S16 32) : Prop :=
  (∀ a x, ((![v455, v457] : Fin 2 → IVec S16 32) a x).toNat < S32x32.size a)
theorem k0_idx23_inb : ∀ (v455 : IVec S16 32) (v457 : IVec S16 32) (k0_hw23 : k0_chk23 v455 v457), ∀ a x, ((![v455, v457] : Fin 2 → IVec S16 32) a x).toNat < S32x32.size a := fun v455 v457 k0_hw23 => k0_hw23
def k0_off27 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v458 : Index := Scalar.indexCast v287
  let c112_312 : Index := 112#32
  ![v458.toNat, 112]

def k0_chk24 (v461 : IVec S16 32) (v463 : IVec S16 32) : Prop :=
  (∀ a x, ((![v461, v463] : Fin 2 → IVec S16 32) a x).toNat < S32x32.size a)
theorem k0_idx24_inb : ∀ (v461 : IVec S16 32) (v463 : IVec S16 32) (k0_hw24 : k0_chk24 v461 v463), ∀ a x, ((![v461, v463] : Fin 2 → IVec S16 32) a x).toNat < S32x32.size a := fun v461 v463 k0_hw24 => k0_hw24
def k0_off28 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v464 : Index := Scalar.indexCast v287
  let c128_315 : Index := 128#32
  ![v464.toNat, 128]

def k0_chk25 (v467 : IVec S16 32) (v469 : IVec S16 32) : Prop :=
  (∀ a x, ((![v467, v469] : Fin 2 → IVec S16 32) a x).toNat < S32x32.size a)
theorem k0_idx25_inb : ∀ (v467 : IVec S16 32) (v469 : IVec S16 32) (k0_hw25 : k0_chk25 v467 v469), ∀ a x, ((![v467, v469] : Fin 2 → IVec S16 32) a x).toNat < S32x32.size a := fun v467 v469 k0_hw25 => k0_hw25
def k0_off29 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v470 : Index := Scalar.indexCast v287
  let c144_318 : Index := 144#32
  ![v470.toNat, 144]

def k0_chk26 (v473 : IVec S16 32) (v475 : IVec S16 32) : Prop :=
  (∀ a x, ((![v473, v475] : Fin 2 → IVec S16 32) a x).toNat < S32x32.size a)
theorem k0_idx26_inb : ∀ (v473 : IVec S16 32) (v475 : IVec S16 32) (k0_hw26 : k0_chk26 v473 v475), ∀ a x, ((![v473, v475] : Fin 2 → IVec S16 32) a x).toNat < S32x32.size a := fun v473 v475 k0_hw26 => k0_hw26
def k0_off30 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v476 : Index := Scalar.indexCast v287
  let c160_321 : Index := 160#32
  ![v476.toNat, 160]

def k0_chk27 (v479 : IVec S16 32) (v481 : IVec S16 32) : Prop :=
  (∀ a x, ((![v479, v481] : Fin 2 → IVec S16 32) a x).toNat < S32x32.size a)
theorem k0_idx27_inb : ∀ (v479 : IVec S16 32) (v481 : IVec S16 32) (k0_hw27 : k0_chk27 v479 v481), ∀ a x, ((![v479, v481] : Fin 2 → IVec S16 32) a x).toNat < S32x32.size a := fun v479 v481 k0_hw27 => k0_hw27
def k0_off31 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v482 : Index := Scalar.indexCast v287
  let c176_324 : Index := 176#32
  ![v482.toNat, 176]

def k0_chk28 (v485 : IVec S16 32) (v487 : IVec S16 32) : Prop :=
  (∀ a x, ((![v485, v487] : Fin 2 → IVec S16 32) a x).toNat < S32x32.size a)
theorem k0_idx28_inb : ∀ (v485 : IVec S16 32) (v487 : IVec S16 32) (k0_hw28 : k0_chk28 v485 v487), ∀ a x, ((![v485, v487] : Fin 2 → IVec S16 32) a x).toNat < S32x32.size a := fun v485 v487 k0_hw28 => k0_hw28
def k0_off32 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v488 : Index := Scalar.indexCast v287
  let c192_327 : Index := 192#32
  ![v488.toNat, 192]

def k0_chk29 (v491 : IVec S16 32) (v493 : IVec S16 32) : Prop :=
  (∀ a x, ((![v491, v493] : Fin 2 → IVec S16 32) a x).toNat < S32x32.size a)
theorem k0_idx29_inb : ∀ (v491 : IVec S16 32) (v493 : IVec S16 32) (k0_hw29 : k0_chk29 v491 v493), ∀ a x, ((![v491, v493] : Fin 2 → IVec S16 32) a x).toNat < S32x32.size a := fun v491 v493 k0_hw29 => k0_hw29
def k0_off33 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v494 : Index := Scalar.indexCast v287
  let c208_330 : Index := 208#32
  ![v494.toNat, 208]

def k0_chk30 (v497 : IVec S16 32) (v499 : IVec S16 32) : Prop :=
  (∀ a x, ((![v497, v499] : Fin 2 → IVec S16 32) a x).toNat < S32x32.size a)
theorem k0_idx30_inb : ∀ (v497 : IVec S16 32) (v499 : IVec S16 32) (k0_hw30 : k0_chk30 v497 v499), ∀ a x, ((![v497, v499] : Fin 2 → IVec S16 32) a x).toNat < S32x32.size a := fun v497 v499 k0_hw30 => k0_hw30
def k0_off34 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v500 : Index := Scalar.indexCast v287
  let c224_333 : Index := 224#32
  ![v500.toNat, 224]

def k0_chk31 (v503 : IVec S16 32) (v505 : IVec S16 32) : Prop :=
  (∀ a x, ((![v503, v505] : Fin 2 → IVec S16 32) a x).toNat < S32x32.size a)
theorem k0_idx31_inb : ∀ (v503 : IVec S16 32) (v505 : IVec S16 32) (k0_hw31 : k0_chk31 v503 v505), ∀ a x, ((![v503, v505] : Fin 2 → IVec S16 32) a x).toNat < S32x32.size a := fun v503 v505 k0_hw31 => k0_hw31
def k0_off35 (i : grid0.Coords) : Fin 2 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c8_i32_157 : BitVec 32 := 8#32
  let c0_i32_158 : BitVec 32 := 0#32
  let v278 : BitVec 1 := Scalar.cmpi .eq c8_i32_157 c0_i32_158
  let c1_i32_159 : BitVec 32 := 1#32
  let v279 : BitVec 32 := Scalar.select v278 c1_i32_159 c8_i32_157
  let v280 : BitVec 32 := Scalar.remsi v259 v279
  let c0_i32_161 : BitVec 32 := 0#32
  let v282 : BitVec 1 := Scalar.cmpi .slt v280 c0_i32_161
  let c0_i32_162 : BitVec 32 := 0#32
  let v283 : BitVec 1 := Scalar.cmpi .slt v279 c0_i32_162
  let v284 : BitVec 1 := Scalar.xori v282 v283
  let c0_i32_160 : BitVec 32 := 0#32
  let v281 : BitVec 1 := Scalar.cmpi .ne v280 c0_i32_160
  let v285 : BitVec 1 := Scalar.andi v284 v281
  let v286 : BitVec 32 := Scalar.addi v280 v279
  let v287 : BitVec 32 := Scalar.select v285 v286 v280
  let v506 : Index := Scalar.indexCast v287
  let c240_336 : Index := 240#32
  ![v506.toNat, 240]

def k0_chk32 (v509 : IVec S16 32) (v511 : IVec S16 32) : Prop :=
  (∀ a x, ((![v509, v511] : Fin 2 → IVec S16 32) a x).toNat < S32x32.size a)
theorem k0_idx32_inb : ∀ (v509 : IVec S16 32) (v511 : IVec S16 32) (k0_hw32 : k0_chk32 v509 v511), ∀ a x, ((![v509, v511] : Fin 2 → IVec S16 32) a x).toNat < S32x32.size a := fun v509 v511 k0_hw32 => k0_hw32
def k0_off36 (i : grid0.Coords) : Fin 3 → Nat :=
  let c2_i32_147 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v258 : BitVec 32 := Scalar.muli c2_i32_147 v1
  let c1_i32_148 : BitVec 32 := 1#32
  let v259 : BitVec 32 := Scalar.addi v258 c1_i32_148
  let c0_i32_339_r3 : BitVec 32 := 0#32
  let c0_i32_340_r3 : BitVec 32 := 0#32
  ![v259.toNat, 0, 0]
abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x32 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1536 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x512x512x3 : Shape := ⟨4, ![64, 512, 512, 3]⟩
abbrev S1x1x768 : Shape := ⟨3, ![1, 1, 768]⟩
abbrev S64x1024 : Shape := ⟨2, ![64, 1024]⟩
abbrev S64x3x512x512 : Shape := ⟨4, ![64, 3, 512, 512]⟩
abbrev S64x3x32x16x32x16 : Shape := ⟨6, ![64, 3, 32, 16, 32, 16]⟩
abbrev S64x32x32x16x16x3 : Shape := ⟨6, ![64, 32, 32, 16, 16, 3]⟩
abbrev S64x1024x768 : Shape := ⟨3, ![64, 1024, 768]⟩
abbrev S64x256 : Shape := ⟨2, ![64, 256]⟩
abbrev S64 : Shape := ⟨1, ![64]⟩
abbrev S64x1 : Shape := ⟨2, ![64, 1]⟩
abbrev S_ : Shape := ⟨0, ![]⟩
abbrev S64x256x1 : Shape := ⟨3, ![64, 256, 1]⟩
abbrev S64x256x2 : Shape := ⟨3, ![64, 256, 2]⟩
abbrev S64x256x768 : Shape := ⟨3, ![64, 256, 768]⟩
abbrev S64x768x768 : Shape := ⟨3, ![64, 768, 768]⟩
abbrev S64x1024x1 : Shape := ⟨3, ![64, 1024, 1]⟩
abbrev S64x1024x2 : Shape := ⟨3, ![64, 1024, 2]⟩

abbrev nBuf : Space → Nat
  | .hbm => 56
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S1x1x768, .f32⟩
  | .hbm, ⟨2, _⟩ => ⟨S64x1024, .i32⟩
  | .hbm, ⟨3, _⟩ => ⟨S64x3x512x512, .f32⟩
  | .hbm, ⟨4, _⟩ => ⟨S64x3x32x16x32x16, .f32⟩
  | .hbm, ⟨5, _⟩ => ⟨S64x32x32x16x16x3, .f32⟩
  | .hbm, ⟨6, _⟩ => ⟨S64x1024x768, .f32⟩
  | .hbm, ⟨7, _⟩ => ⟨S64x256, .i32⟩
  | .hbm, ⟨8, _⟩ => ⟨S64, .i32⟩
  | .hbm, ⟨9, _⟩ => ⟨S64x1, .i32⟩
  | .hbm, ⟨10, _⟩ => ⟨S_, .i32⟩
  | .hbm, ⟨11, _⟩ => ⟨S64x1, .i32⟩
  | .hbm, ⟨12, _⟩ => ⟨S64x1, .i1⟩
  | .hbm, ⟨13, _⟩ => ⟨S_, .i32⟩
  | .hbm, ⟨14, _⟩ => ⟨S64x1, .i32⟩
  | .hbm, ⟨15, _⟩ => ⟨S64x1, .i32⟩
  | .hbm, ⟨16, _⟩ => ⟨S64x1, .i32⟩
  | .hbm, ⟨17, _⟩ => ⟨S_, .i32⟩
  | .hbm, ⟨18, _⟩ => ⟨S64x256, .i32⟩
  | .hbm, ⟨19, _⟩ => ⟨S64x256, .i1⟩
  | .hbm, ⟨20, _⟩ => ⟨S_, .i32⟩
  | .hbm, ⟨21, _⟩ => ⟨S64x256, .i32⟩
  | .hbm, ⟨22, _⟩ => ⟨S64x256, .i32⟩
  | .hbm, ⟨23, _⟩ => ⟨S64x256, .i32⟩
  | .hbm, ⟨24, _⟩ => ⟨S64x256, .i32⟩
  | .hbm, ⟨25, _⟩ => ⟨S64x256x1, .i32⟩
  | .hbm, ⟨26, _⟩ => ⟨S64x256x1, .i32⟩
  | .hbm, ⟨27, _⟩ => ⟨S64x256x2, .i32⟩
  | .hbm, ⟨28, _⟩ => ⟨S64x256x768, .f32⟩
  | .hbm, ⟨29, _⟩ => ⟨S64x768x768, .f32⟩
  | .hbm, ⟨30, _⟩ => ⟨S64x1024x768, .f32⟩
  | .hbm, ⟨31, _⟩ => ⟨S_, .f32⟩
  | .hbm, ⟨32, _⟩ => ⟨S64x1024x768, .f32⟩
  | .hbm, ⟨33, _⟩ => ⟨S_, .i32⟩
  | .hbm, ⟨34, _⟩ => ⟨S64x1, .i32⟩
  | .hbm, ⟨35, _⟩ => ⟨S64x1, .i1⟩
  | .hbm, ⟨36, _⟩ => ⟨S_, .i32⟩
  | .hbm, ⟨37, _⟩ => ⟨S64x1, .i32⟩
  | .hbm, ⟨38, _⟩ => ⟨S64x1, .i32⟩
  | .hbm, ⟨39, _⟩ => ⟨S64x1, .i32⟩
  | .hbm, ⟨40, _⟩ => ⟨S_, .i32⟩
  | .hbm, ⟨41, _⟩ => ⟨S64x1024, .i32⟩
  | .hbm, ⟨42, _⟩ => ⟨S64x1024, .i1⟩
  | .hbm, ⟨43, _⟩ => ⟨S_, .i32⟩
  | .hbm, ⟨44, _⟩ => ⟨S64x1024, .i32⟩
  | .hbm, ⟨45, _⟩ => ⟨S64x1024, .i32⟩
  | .hbm, ⟨46, _⟩ => ⟨S64x1024, .i32⟩
  | .hbm, ⟨47, _⟩ => ⟨S64x1024, .i32⟩
  | .hbm, ⟨48, _⟩ => ⟨S64x1024x1, .i32⟩
  | .hbm, ⟨49, _⟩ => ⟨S64x1024x1, .i32⟩
  | .hbm, ⟨50, _⟩ => ⟨S64x1024x2, .i32⟩
  | .hbm, ⟨51, _⟩ => ⟨S64x1024x768, .f32⟩
  | .hbm, ⟨52, _⟩ => ⟨S64x32x32x16x16x3, .f32⟩
  | .hbm, ⟨53, _⟩ => ⟨S64x3x32x16x32x16, .f32⟩
  | .hbm, ⟨54, _⟩ => ⟨S64x3x512x512, .f32⟩
  | .hbm, ⟨55, _⟩ => ⟨S64x512x512x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Proof.Loop.lean ====
/- The SparseCore kernel's body, folded back into loops. The printed body is straight-line: for each
   of the two samples of a tile it copies the eight-row block of the index array that holds the
   sample, writes zeros over the mask piece by piece (64 pieces of sixteen lanes), scatters ones at
   the places the sample's indices name (16 groups of sixteen lanes) and copies the mask to its row
   of the result. Here the same sequence is written with a counter, so that each kind of step is
   reasoned about once. -/
module

public import proofs.«01_k».proof.Proof.Gen.KernelIdeal.Skeleton

@[expose] public section

noncomputable section

namespace Cert.KernelIdeal.Mask

open Idealize.ShloMosaic Idealize.SL.Sem
open Cert.KernelIdeal.Gen

variable {F : FTy → Type} [FloatOps F]

/-- The sample a tile handles in round `t` (0 or 1), as the kernel computes it. -/
def smp (i : grid0.Coords) (t : BitVec 32) : BitVec 32 :=
  Scalar.addi (Scalar.muli 2#32 (Scalar.addi (Scalar.muli (BitVec.ofNat 32 (i 1).val) 2#32) (BitVec.ofNat 32 (i 0).val))) t

/-- The first row of the aligned eight-row block holding row `b`, as the kernel computes it. -/
def blk (b : BitVec 32) : BitVec 32 :=
  Scalar.muli 8#32 (Scalar.select
    (Scalar.andi
      (Scalar.cmpi .ne
        (Scalar.subi (Scalar.extui (Scalar.cmpi .sgt b 0#32) : BitVec 32) (Scalar.extui (Scalar.cmpi .slt b 0#32)))
        (Scalar.subi (Scalar.extui (Scalar.cmpi .sgt 8#32 0#32) : BitVec 32) (Scalar.extui (Scalar.cmpi .slt 8#32 0#32))))
      (Scalar.cmpi .ne (Scalar.remsi b 8#32) 0#32))
    (Scalar.subi (Scalar.divsi b 8#32) 1#32) (Scalar.divsi b 8#32))

/-- The row inside that block, as the kernel computes it. -/
def sub (b : BitVec 32) : BitVec 32 :=
  let m : BitVec 32 := Scalar.select (Scalar.cmpi .eq 8#32 0#32) 1#32 8#32
  let r : BitVec 32 := Scalar.remsi b m
  Scalar.indexCast (Scalar.select
    (Scalar.andi (Scalar.xori (Scalar.cmpi .slt r 0#32) (Scalar.cmpi .slt m 0#32)) (Scalar.cmpi .ne r 0#32))
    (Scalar.addi r m) r)

theorem smp_toNat (i : grid0.Coords) (t : Fin 2) :
    (smp i (BitVec.ofNat 32 t.val)).toNat = 2 * (2 * (i 1).val + (i 0).val) + t.val := by
  have h0 : (i 0).val < 2 := (i 0).isLt
  have h1 : (i 1).val < 16 := (i 1).isLt
  have ht := t.isLt
  simp only [smp, Scalar.addi, Scalar.muli, IntOp.addi, IntOp.muli, BitVec.toNat_add, BitVec.toNat_mul, BitVec.toNat_ofNat]
  omega

theorem smp_lt (i : grid0.Coords) (t : Fin 2) : (smp i (BitVec.ofNat 32 t.val)).toNat < 64 := by
  have h0 : (i 0).val < 2 := (i 0).isLt
  have h1 : (i 1).val < 16 := (i 1).isLt
  rw [smp_toNat]; omega

theorem blk_sub_of_lt : ∀ n : Fin 64,
    (blk (BitVec.ofNat 32 n.val)).toNat = 8 * (n.val / 8) ∧ (sub (BitVec.ofNat 32 n.val)).toNat = n.val % 8 := by
  decide

theorem blk_smp (i : grid0.Coords) (t : Fin 2) :
    (blk (smp i (BitVec.ofNat 32 t.val))).toNat = 8 * ((smp i (BitVec.ofNat 32 t.val)).toNat / 8) := by
  have h := (blk_sub_of_lt ⟨_, smp_lt i t⟩).1
  rwa [BitVec.ofNat_toNat, BitVec.setWidth_eq] at h

theorem sub_smp (i : grid0.Coords) (t : Fin 2) :
    (sub (smp i (BitVec.ofNat 32 t.val))).toNat = (smp i (BitVec.ofNat 32 t.val)).toNat % 8 := by
  have h := (blk_sub_of_lt ⟨_, smp_lt i t⟩).2
  rwa [BitVec.ofNat_toNat, BitVec.setWidth_eq] at h

theorem blk_inb (i : grid0.Coords) (t : Fin 2) :
    ∀ a, (![(blk (smp i (BitVec.ofNat 32 t.val))).toNat, 768] : Fin 2 → Nat) a + S8x256.size a ≤ S64x1024.size a := by
  have h := smp_lt i t
  intro a
  fin_cases a
  · show (blk _).toNat + 8 ≤ 64
    rw [blk_smp]; omega
  · show 768 + 256 ≤ 1024
    omega

theorem row_inb (i : grid0.Coords) (t : Fin 2) :
    ∀ a, (![(smp i (BitVec.ofNat 32 t.val)).toNat, 0, 0] : Fin 3 → Nat) a + S1x32x32.size a ≤ S64x32x32.size a := by
  have h := smp_lt i t
  intro a
  fin_cases a
  · show (smp _ _).toNat + 1 ≤ 64
    omega
  · show 0 + 32 ≤ 32
    omega
  · show 0 + 32 ≤ 32
    omega

theorem grp_inb (i : grid0.Coords) (t : Fin 2) (k : Fin 16) :
    ∀ a, (![(sub (smp i (BitVec.ofNat 32 t.val))).toNat, 16 * k.val] : Fin 2 → Nat) a + S1x16.size a ≤ S8x256.size a := by
  have h := smp_lt i t
  have hk := k.isLt
  intro a
  fin_cases a
  · show (sub _).toNat + 1 ≤ 8
    rw [sub_smp]; omega
  · show 16 * k.val + 16 ≤ 256
    omega

theorem piece_inb (k : Fin 64) :
    ∀ a, (![k.val / 2, 16 * (k.val % 2)] : Fin 2 → Nat) a + S1x16.size a ≤ S32x32.size a := by
  have hk := k.isLt
  intro a
  fin_cases a
  · show k.val / 2 + 1 ≤ 32
    omega
  · show 16 * (k.val % 2) + 16 ≤ 32
    omega

/-- The part of the index array a tile copies for round `t`. -/
abbrev idxRect (i : grid0.Coords) (t : Fin 2) : Rect S64x1024 :=
  Rect.unit (s := S64x1024) ![(blk (smp i (BitVec.ofNat 32 t.val))).toNat, 768] S8x256.size (blk_inb i t)

/-- The row of the mask a tile writes in round `t`. -/
abbrev outRect (i : grid0.Coords) (t : Fin 2) : Rect S64x32x32 :=
  Rect.unit (s := S64x32x32) ![(smp i (BitVec.ofNat 32 t.val)).toNat, 0, 0] S1x32x32.size (row_inb i t)

/-- Sixteen lanes of the sample's row in the copied block. -/
abbrev grpRect (i : grid0.Coords) (t : Fin 2) (k : Fin 16) : Rect S8x256 :=
  Rect.unit (s := S8x256) ![(sub (smp i (BitVec.ofNat 32 t.val))).toNat, 16 * k.val] S1x16.size (grp_inb i t k)

/-- Piece `k` of the tile's mask: sixteen lanes, two pieces to a row. -/
abbrev pieceRect (k : Fin 64) : Rect S32x32 :=
  Rect.unit (s := S32x32) ![k.val / 2, 16 * (k.val % 2)] S1x16.size (piece_inb k)

section
variable (i : grid0.Coords) (arg2 : Memref sig .scVector .hbm S64x1024 .i32) (harg2 : arg2.IsWhole)
  (arg3 : Memref sig .scVector .hbm S64x32x32 .i32) (harg3 : arg3.IsWhole)
  (arg4 : Memref sig .scVector .vmem S8x256 .i32) (harg4 : arg4.IsWhole)
  (arg5 : Memref sig .scVector .vmem S32x32 .i32) (harg5 : arg5.IsWhole)

/-- The programs of one tile. -/
abbrev TileProg (F : FTy → Type) [FloatOps F] (i : grid0.Coords) : Type _ :=
  Prog (TpuEff nD τ sig (Elt F) Λ₀ (.scVector ((i 0).castLE hcore0) ((i 1).castLE hsub0))) PUnit

/-- Zeros over piece `k` of the mask. -/
def zeroStep (k : Fin 64) : TileProg F i := do
  let _ ← Prog.lift (.load arg5 (pieceRect k).toLoadRect (View.loadsAt_vmem h_S1x16))
  Prog.lift (.store arg5 (pieceRect k) (shapeCast S1x16 k0_pay1 shapeCasts_S16_S1x16) Finset.univ (View.stores_vmem_bits_univ h_S1x16 rfl) (.inl rfl))

/-- Ones at the places group `k` of the sample's indices names. -/
def markStep (t : Fin 2) (k : Fin 16) : TileProg F i := do
  let v : Vec F S1x16 .i32 ← Prog.lift (.load arg4 (grpRect i t k).toLoadRect (View.loadsAt_vmem h_S1x16))
  have hw : k0_chk1 (k0_pay4 v) (k0_pay5 v) := (← Prog.lift (TpuEff.assume (k0_chk1 (k0_pay4 v) (k0_pay5 v)) (k0_chk1.dec (k0_pay4 v) (k0_pay5 v)))).down
  SparseCore.vectorStoreIdx arg5 ![k0_pay4 v, k0_pay5 v] k0_pay2 (fun _ => 1#1) false (k0_idx1_inb (k0_pay4 v) (k0_pay5 v) hw) (View.stores_vmem_bits_univ h_S32x32 rfl)

/-- The pieces from `k` on, then `rest`. -/
def zeroFrom : (fuel k : Nat) → k + fuel = 64 → TileProg F i → TileProg F i
  | 0, _, _, rest => rest
  | fuel + 1, k, h, rest => do
    zeroStep i arg5 ⟨k, by omega⟩
    zeroFrom fuel (k + 1) (by omega) rest

/-- The groups from `k` on, then `rest`. -/
def markFrom (t : Fin 2) : (fuel k : Nat) → k + fuel = 16 → TileProg F i → TileProg F i
  | 0, _, _, rest => rest
  | fuel + 1, k, h, rest => do
    markStep i arg4 arg5 t ⟨k, by omega⟩
    markFrom t fuel (k + 1) (by omega) rest

/-- One round of a tile, copying in on the semaphore `sin` and out on `sout`. -/
def round (t : Fin 2) (sin sout : DmaSems sig S_) (rest : TileProg F i) : TileProg F i := do
  Prog.lift (.enqueueDma (arg2.slice (idxRect i t) (fun _ => rfl)) (.here arg4) (.dma sin.sem) (View.wordExact_bits rfl) harg4.wordExact ⟨Or.inl rfl, trivial⟩)
  Prog.lift (.waitDma2 sin.sem (arg2.slice (idxRect i t) (fun _ => rfl)) arg4 (View.wordExact_bits rfl) harg4.wordExact)
  zeroFrom i arg5 64 0 rfl <| markFrom i arg4 arg5 t 16 0 rfl <| do
  Prog.lift (.enqueueDma arg5 (.here ((arg3.slice (outRect i t) (fun _ => rfl)).squeeze S32x32 squeezes_S1x32x32_S32x32)) (.dma sout.sem) harg5.wordExact ((View.wordExact_bits rfl).reshape _ _) ⟨Or.inl rfl, trivial⟩)
  Prog.lift (.waitDma2 sout.sem arg5 ((arg3.slice (outRect i t) (fun _ => rfl)).squeeze S32x32 squeezes_S1x32x32_S32x32) harg5.wordExact ((View.wordExact_bits rfl).reshape _ _))
  rest

set_option maxRecDepth 65536 in
set_option maxHeartbeats 4000000 in
/-- The printed body is its two rounds. -/
theorem body_eq (s0 s1 s2 s3 : DmaSems sig S_) :
    cc0__sc_mask_body (F := F) i arg2 harg2 arg3 harg3 arg4 harg4 arg5 harg5 s0 s1 s2 s3
      = round i arg2 arg3 arg4 harg4 arg5 harg5 0 s0 s1 (round i arg2 arg3 arg4 harg4 arg5 harg5 1 s2 s3 (pure ⟨⟩)) := rfl

end

end Cert.KernelIdeal.Mask
-- ==== Proof.MaskValue.lean ====
/- What the SparseCore kernel computes: the mask whose entry (b, p, q) is one where row b of the index
   array names place 32 p + q in its last 256 columns, and zero elsewhere; and how the tile's scratch
   mask approaches one row of it, piece by piece. -/
module

public import proofs.«01_k».proof.Proof.Loop
public import Idealize.ShloMosaic.Lib.Pointwise.Index
public import Idealize.ShloMosaic.Lib.Pointwise.Reshape
public import Idealize.ShloMosaic.Lib.WritesUnit

@[expose] public section

noncomputable section

namespace Cert.KernelIdeal.Mask

open Idealize.ShloMosaic Idealize.SL.Sem
open Cert.KernelIdeal.Gen
open Classical in
/-- The mask of an index array: a one at each place the last 256 columns of the row name. -/
def maskOf (idx : S64x1024.Idx → BitVec 32) : S64x32x32.Idx → BitVec 32 := fun p =>
  if ∃ n : Fin 1024, 768 ≤ n.val ∧ (idx (ix2 (p 0) n)).toNat = 32 * (p 1).val + (p 2).val then 1#32 else 0#32

/-- The first `16 k` entries of a 32×32 array, in row-major order, are zero. -/
def ZeroBelow (k : Nat) (f : S32x32.Idx → BitVec 32) : Prop :=
  ∀ p : S32x32.Idx, 32 * (p 0).val + (p 1).val < 16 * k → f p = 0#32

open Classical in
/-- A 32×32 array holding one at the places the first `16 k` words of row `r` of `g` name, zero elsewhere. -/
def Marked (g : S8x256.Idx → BitVec 32) (r : Fin 8) (k : Nat) (f : S32x32.Idx → BitVec 32) : Prop :=
  ∀ p : S32x32.Idx, f p = if ∃ n : Fin 256, n.val < 16 * k ∧ (g (ix2 r n)).toNat = 32 * (p 0).val + (p 1).val then 1#32 else 0#32

theorem zeroBelow_zero (f : S32x32.Idx → BitVec 32) : ZeroBelow 0 f := fun p h => absurd h (by omega)

theorem marked_zero (g : S8x256.Idx → BitVec 32) (r : Fin 8) (f : S32x32.Idx → BitVec 32) (h : ZeroBelow 64 f) :
    Marked g r 0 f := fun p => by
  have h0 : (p 0).val < 32 := (p 0).isLt
  have h1 : (p 1).val < 32 := (p 1).isLt
  rw [h p (by omega), if_neg]
  rintro ⟨n, hn, -⟩; omega

variable {F : FTy → Type} [FloatOps F]

/-- Writing zeros over piece `k`. -/
theorem zeroBelow_step {κ : Kind} {sp : Space} (v : View sig κ sp S32x32 .i32) (f : v.ty.Contents (Elt F)) (k : Fin 64)
    (h : ZeroBelow k.val (v.read (Elt F) f)) :
    ZeroBelow (k.val + 1) (v.read (Elt F) ((v.slice (pieceRect k)).write (Elt F) f (shapeCast S1x16 (k0_pay1 : IVec S16 32) shapeCasts_S16_S1x16) Finset.univ)) := by
  intro p hp
  have h0 : (p 0).val < 32 := (p 0).isLt
  have h1 : (p 1).val < 32 := (p 1).isLt
  have := View.read_writes_cons_unit v f (piece_inb k) (shapeCast S1x16 (k0_pay1 : IVec S16 32) shapeCasts_S16_S1x16) [] p rfl
  rw [View.writes_cons, View.writes_nil] at this
  refine this.trans ?_
  split
  · rfl
  · rename_i hnot
    refine h p ?_
    by_contra hcon
    apply hnot
    intro a
    fin_cases a
    · show k.val / 2 ≤ (p 0).val ∧ (p 0).val < k.val / 2 + 1
      omega
    · show 16 * (k.val % 2) ≤ (p 1).val ∧ (p 1).val < 16 * (k.val % 2) + 16
      omega

/-- A word below 1024 shifted right by five is its quotient by 32. -/
theorem shr5_toNat (w : BitVec 32) (h : w.toNat < 1024) : (IntOp.shrsi .vector w 5#32).toNat = w.toNat / 32 := by
  have hm : w.msb = false := by rw [BitVec.msb_eq_decide]; exact decide_eq_false (by omega)
  show (w.sshiftRight' 5#32).toNat = _
  rw [BitVec.sshiftRight_eq', BitVec.sshiftRight_eq_of_msb_false hm, BitVec.toNat_ushiftRight, Nat.shiftRight_eq_div_pow]
  rfl

/-- A word masked to its low five bits is its remainder by 32. -/
theorem and31_toNat (w : BitVec 32) : (IntOp.andi w 31#32).toNat = w.toNat % 32 := by
  show (w &&& 31#32).toNat = _
  rw [BitVec.toNat_and]
  exact Nat.and_two_pow_sub_one_eq_mod _ 5

theorem lane_cast (v : Vec F S1x16 .i32) (x : S16.Idx) :
    shapeCast S16 v shapeCasts_S1x16_S16 x = v (ix2 0 (x 0)) := by
  simp only [pointwise]

theorem pay4_toNat (v : Vec F S1x16 .i32) (x : S16.Idx) (h : (show BitVec 32 from v (ix2 0 (x 0))).toNat < 1024) :
    ((k0_pay4 v : IVec S16 32) x).toNat = (show BitVec 32 from v (ix2 0 (x 0))).toNat / 32 := by
  show (IntOp.shrsi .vector (shapeCast S16 v shapeCasts_S1x16_S16 x) 5#32).toNat = _
  rw [lane_cast]
  exact shr5_toNat _ h

theorem pay5_toNat (v : Vec F S1x16 .i32) (x : S16.Idx) :
    ((k0_pay5 v : IVec S16 32) x).toNat = (show BitVec 32 from v (ix2 0 (x 0))).toNat % 32 := by
  show (IntOp.andi (shapeCast S16 v shapeCasts_S1x16_S16 x) 31#32).toNat = _
  rw [lane_cast]
  exact and31_toNat _

/-- A fold whose every step at place `p` either puts `c` (where `P` holds) or leaves what is there. -/
theorem foldl_hit {I V X : Type} (st : (I → V) → X → (I → V)) (P : X → Prop) (c : V) (p : I)
    (hpos : ∀ g k, P k → st g k p = c) (hneg : ∀ g k, ¬ P k → st g k p = g p) (L : List X) :
    ∀ f : I → V, ((∃ k ∈ L, P k) → L.foldl st f p = c) ∧ ((¬ ∃ k ∈ L, P k) → L.foldl st f p = f p) := by
  induction L with
  | nil => intro f; exact ⟨fun ⟨_, h, _⟩ => absurd h List.not_mem_nil, fun _ => rfl⟩
  | cons k L ih =>
    intro f
    rw [List.foldl_cons]
    by_cases h1 : ∃ k ∈ L, P k
    · refine ⟨fun _ => (ih _).1 h1, fun h => absurd ?_ h⟩
      obtain ⟨k', hk', hk⟩ := h1
      exact ⟨k', List.mem_cons_of_mem _ hk', hk⟩
    · rw [(ih _).2 h1]
      constructor
      · rintro ⟨k', hk', hk⟩
        rcases List.mem_cons.mp hk' with rfl | hm
        · exact hpos _ _ hk
        · exact absurd ⟨k', hm, hk⟩ h1
      · exact fun h => hneg _ _ fun hk => h ⟨k, List.mem_cons_self, hk⟩

/-- A scatter of one value `c` at every lane: `c` where some lane points, and what was there elsewhere. -/
theorem storeIdx_const {s : Shape} {e : EltTy} {d : Fin 1 → Nat} (f : Vec F s e) (idxs : Fin s.rank → IVec ⟨1, d⟩ 32)
    (v : Vec F ⟨1, d⟩ e) (c : Elt F e) (hv : ∀ x, v x = c) (h : ∀ a x, (idxs a x).toNat < s.size a) (p : s.Idx) :
    ((∃ x, ∀ a, (p a).val = (idxs a x).toNat) → storeIdx f idxs v (fun _ => 1#1) false h p = c) ∧
    ((¬ ∃ x, ∀ a, (p a).val = (idxs a x).toNat) → storeIdx f idxs v (fun _ => 1#1) false h p = f p) := by
  unfold storeIdx
  have key := fun st hpos hneg => foldl_hit (I := s.Idx) (V := Elt F e) st
    (fun k : Fin (d 0) => ∀ a, (p a).val = (idxs a (Shape.ofLane k)).toNat) c p hpos hneg (List.finRange (d 0)) f
  constructor
  · rintro ⟨x, hx⟩
    refine (key _ ?_ ?_).1 ⟨x 0, List.mem_finRange _, ?_⟩
    · intro g k hk
      dsimp only
      rw [if_pos (show (1#1 : BitVec 1) = 1 from rfl)]
      rw [if_pos (show ∀ a, (p a).val = (idxAt idxs h (Shape.ofLane k) a).val from hk)]
      exact hv _
    · intro g k hk
      dsimp only
      rw [if_pos (show (1#1 : BitVec 1) = 1 from rfl)]
      rw [if_neg (show ¬ ∀ a, (p a).val = (idxAt idxs h (Shape.ofLane k) a).val from hk)]
    · have hx' : (Shape.ofLane (x 0) : Shape.Idx ⟨1, d⟩) = x := by
        funext a; obtain rfl := Fin.eq_zero a; rfl
      rw [hx']; exact hx
  · intro hx
    refine (key _ ?_ ?_).2 fun ⟨k, _, hk⟩ => hx ⟨_, hk⟩
    · intro g k hk
      dsimp only
      rw [if_pos (show (1#1 : BitVec 1) = 1 from rfl)]
      rw [if_pos (show ∀ a, (p a).val = (idxAt idxs h (Shape.ofLane k) a).val from hk)]
      exact hv _
    · intro g k hk
      dsimp only
      rw [if_pos (show (1#1 : BitVec 1) = 1 from rfl)]
      rw [if_neg (show ¬ ∀ a, (p a).val = (idxAt idxs h (Shape.ofLane k) a).val from hk)]

open Classical in
/-- A scatter of ones leaves one where some lane points, and what was there elsewhere. -/
theorem storeIdx_ones (f : Vec F S32x32 .i32) (idxs : Fin S32x32.rank → IVec S16 32)
    (h : ∀ a x, (idxs a x).toNat < S32x32.size a) (p : S32x32.Idx) :
    storeIdx f idxs (k0_pay2 : IVec S16 32) (fun _ => 1#1) false h p
      = if ∃ x : S16.Idx, ∀ a, (p a).val = (idxs a x).toNat then 1#32 else f p := by
  have key := storeIdx_const f idxs (k0_pay2 : IVec S16 32) 1#32 (fun _ => rfl) h p
  by_cases hx : ∃ x : S16.Idx, ∀ a, (p a).val = (idxs a x).toNat
  · rw [if_pos hx]; exact key.1 hx
  · rw [if_neg hx]; exact key.2 hx

/-- The lanes of group `k` of the sample's row. -/
theorem grp_read {κ : Kind} {sp : Space} (v : View sig κ sp S8x256 .i32) (g : v.ty.Contents (Elt F)) (i : grid0.Coords) (t : Fin 2)
    (k : Fin 16) (r : Fin 8) (hr : r.val = (sub (smp i (BitVec.ofNat 32 t.val))).toNat) (l : Fin 16) :
    v.readAt (Elt F) (grpRect i t k).toLoadRect g (ix2 0 l) = v.read (Elt F) g (ix2 r ⟨16 * k.val + l.val, by omega⟩) := by
  rw [View.readAt_apply]
  congr 1
  funext a
  apply Fin.ext
  rw [LoadRect.idx_apply]
  fin_cases a
  · show (sub _).toNat + 1 * 0 = r.val
    omega
  · show 16 * k.val + 1 * l.val = 16 * k.val + l.val
    omega

/-- The indices of a group are in range where the words are below 1024. -/
theorem chk_of_lt {κ : Kind} {sp : Space} (v : View sig κ sp S8x256 .i32) (g : v.ty.Contents (Elt F)) (i : grid0.Coords) (t : Fin 2)
    (k : Fin 16) (hg : ∀ x, (show BitVec 32 from v.read (Elt F) g x).toNat < 1024) :
    k0_chk1 (k0_pay4 (v.readAt (Elt F) (grpRect i t k).toLoadRect g)) (k0_pay5 (v.readAt (Elt F) (grpRect i t k).toLoadRect g)) := by
  have hlt : ∀ x : S16.Idx, (show BitVec 32 from v.readAt (Elt F) (grpRect i t k).toLoadRect g (ix2 0 (x 0))).toNat < 1024 := fun x => hg _
  intro a x
  fin_cases a
  · show ((k0_pay4 _ : IVec S16 32) x).toNat < 32
    rw [pay4_toNat _ _ (hlt x)]
    have := hlt x
    omega
  · show ((k0_pay5 _ : IVec S16 32) x).toNat < 32
    rw [pay5_toNat]
    omega

/-- Scattering ones at group `k`. -/
theorem marked_step {κ : Kind} {sp : Space} (v : View sig κ sp S8x256 .i32) (g : v.ty.Contents (Elt F)) (i : grid0.Coords) (t : Fin 2)
    (k : Fin 16) (r : Fin 8) (hr : r.val = (sub (smp i (BitVec.ofNat 32 t.val))).toNat)
    (hg : ∀ x, (show BitVec 32 from v.read (Elt F) g x).toNat < 1024)
    (f : Vec F S32x32 .i32) (hf : Marked (v.read (Elt F) g) r k.val f)
    (h : ∀ a x, ((![k0_pay4 (v.readAt (Elt F) (grpRect i t k).toLoadRect g), k0_pay5 (v.readAt (Elt F) (grpRect i t k).toLoadRect g)] :
      Fin 2 → IVec S16 32) a x).toNat < S32x32.size a) :
    Marked (v.read (Elt F) g) r (k.val + 1)
      (storeIdx f ![k0_pay4 (v.readAt (Elt F) (grpRect i t k).toLoadRect g), k0_pay5 (v.readAt (Elt F) (grpRect i t k).toLoadRect g)]
        (k0_pay2 : IVec S16 32) (fun _ => 1#1) false h) := by
  intro p
  have h0 : (p 0).val < 32 := (p 0).isLt
  have h1 : (p 1).val < 32 := (p 1).isLt
  have hk := k.isLt
  rw [storeIdx_ones, hf p]
  have hlane : ∀ x : S16.Idx, (∀ a, (p a).val = ((![k0_pay4 (v.readAt (Elt F) (grpRect i t k).toLoadRect g), k0_pay5 (v.readAt (Elt F) (grpRect i t k).toLoadRect g)] :
      Fin 2 → IVec S16 32) a x).toNat) ↔
      (show BitVec 32 from v.read (Elt F) g (ix2 r ⟨16 * k.val + (x 0).val, by have := (x 0).isLt; change _ < 16 at this; omega⟩)).toNat = 32 * (p 0).val + (p 1).val := by
    intro x
    have e := grp_read v g i t k r hr (x 0)
    have l := hg (ix2 r ⟨16 * k.val + (x 0).val, by have := (x 0).isLt; change _ < 16 at this; omega⟩)
    have e4 := pay4_toNat (v.readAt (Elt F) (grpRect i t k).toLoadRect g) x (by rw [e]; exact l)
    have e5 := pay5_toNat (v.readAt (Elt F) (grpRect i t k).toLoadRect g) x
    rw [e] at e4 e5
    constructor
    · intro hx
      have a0 : (p 0).val = ((k0_pay4 (v.readAt (Elt F) (grpRect i t k).toLoadRect g) : IVec S16 32) x).toNat := hx 0
      have a1 : (p 1).val = ((k0_pay5 (v.readAt (Elt F) (grpRect i t k).toLoadRect g) : IVec S16 32) x).toNat := hx 1
      rw [e4] at a0; rw [e5] at a1
      omega
    · intro hx a
      fin_cases a
      · show (p 0).val = ((k0_pay4 (v.readAt (Elt F) (grpRect i t k).toLoadRect g) : IVec S16 32) x).toNat
        rw [e4, hx]; omega
      · show (p 1).val = ((k0_pay5 (v.readAt (Elt F) (grpRect i t k).toLoadRect g) : IVec S16 32) x).toNat
        rw [e5, hx]; omega
  by_cases hx : ∃ x : S16.Idx, ∀ a, (p a).val = ((![k0_pay4 (v.readAt (Elt F) (grpRect i t k).toLoadRect g), k0_pay5 (v.readAt (Elt F) (grpRect i t k).toLoadRect g)] :
      Fin 2 → IVec S16 32) a x).toNat
  · rw [if_pos hx]
    obtain ⟨x, hx⟩ := hx
    rw [hlane] at hx
    have hxl : (x 0).val < 16 := (x 0).isLt
    exact (if_pos ⟨_, by show 16 * k.val + (x 0).val < _; omega, hx⟩).symm
  · rw [if_neg hx]
    refine if_congr ⟨fun ⟨n, hn, e⟩ => ⟨n, by omega, e⟩, fun ⟨n, hn, e⟩ => ⟨n, ?_, e⟩⟩ rfl rfl
    by_contra hcon
    refine hx ⟨ix1 ⟨n.val - 16 * k.val, by omega⟩, (hlane _).mpr ?_⟩
    have en : (⟨16 * k.val + (n.val - 16 * k.val), by omega⟩ : Fin 256) = n := Fin.ext (by show 16 * k.val + (n.val - 16 * k.val) = n.val; omega)
    show (show BitVec 32 from v.read (Elt F) g (ix2 r ⟨16 * k.val + (n.val - 16 * k.val), _⟩)).toNat = _
    rw [en]; exact e

end Cert.KernelIdeal.Mask
-- ==== Proof.Setup.lean ====
/- The kernel as its launch sees it: the SparseCore call's parts, the resource algebra, the arrays and the
   scratch of a tile, and what the call hands a tile and takes back. -/
module

public import proofs.«01_k».proof.Proof.MaskValue
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Mask

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the block pipeline's rounds, the copies' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UR (MT nD τ sig (HIx 1) (Elt F) ℕ UU ℕ) :=
  (Emb.inl.trans Emb.inr : Emb UR UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UR 𝕄).LandsIn (upEmb : UEmb _ 𝕄) := by unfold EP; infer_instance

/-! ## The arrays -/

variable (m : (ℓ : Loc nD τ sig) → Buf (Elt F) ℓ)

/-- The index array and the mask, as locations of device `d`. -/
abbrev aLoc (d : Dev nD) : Loc nD τ sig := (SparseCore.T d).loc main_arg2
abbrev oLoc (d : Dev nD) : Loc nD τ sig := (SparseCore.T d).loc main_v0

/-- The kernel's memrefs. -/
abbrev aV : Memref sig .scVector .hbm S64x1024 .i32 := Memref.whole main_arg2_scv
abbrev oV : Memref sig .scVector .hbm S64x32x32 .i32 := Memref.whole main_v0_scv
abbrev sI : Memref sig .scVector .vmem S8x256 .i32 := Memref.whole cc0_scratch0
abbrev sM : Memref sig .scVector .vmem S32x32 .i32 := Memref.whole cc0_scratch1

/-- The indices the kernel reads name places of the mask. -/
def PreOK : Prop := ∀ (d : Dev nD) (p : S64x1024.Idx), (show BitVec 32 from m (aLoc d) p).toNat < 1024

/-- The mask of device `d`'s index array, as contents of the mask array. -/
def maskBuf (d : Dev nD) : Buf (Elt F) (oLoc d) := maskOf (m (aLoc d))

abbrev cV (L : grid0.Coords) : Fin τ.nSC := (L 0).castLE hcore0
abbrev jV (L : grid0.Coords) : Fin τ.nSub := (L 1).castLE hsub0
/-- The tile at coordinates `L`. -/
abbrev thr (d : Dev nD) (L : grid0.Coords) : Thread nD τ := V d (cV L) (jV L)

/-- The mask row a tile writes in round `t`, as the program slices it. -/
abbrev oRow (L : grid0.Coords) (t : Fin 2) : Memref sig .scVector .hbm S32x32 .i32 :=
  ((oV).slice (outRect L t) (fun _ => rfl)).squeeze S32x32 squeezes_S1x32x32_S32x32
/-- The block of the index array a tile copies in round `t`. -/
abbrev aBlk (L : grid0.Coords) (t : Fin 2) : Memref sig .scVector .hbm S8x256 .i32 :=
  (aV).slice (idxRect L t) (fun _ => rfl)

/-- The places of the mask a tile writes in round `t`. -/
abbrev rowSet (L : grid0.Coords) (t : Fin 2) : Finset S64x32x32.Idx := (oRow L t).view.set

/-- The share of the index array a tile reads by. -/
def tileShare (L : grid0.Coords) : PosShare TreeShare :=
  Transfers.dealOf (Transfers.dealOf fullShare Finset.univ (L 0)) Finset.univ (L 1)

/-- What the call hands the tile at `L`: its share of the index array, and its two rows of the mask at `f`. -/
def tileHas (d : Dev nD) (L : grid0.Coords) (f : Buf (Elt F) (oLoc d)) : sProp 𝕄 :=
  iprop((aLoc d ↦{tileShare L} m (aLoc d)) ∗ (oLoc d ↦[rowSet L 0]{fullShare} f) ∗ (oLoc d ↦[rowSet L 1]{fullShare} f))

instance tileHas_storable (d : Dev nD) (L : grid0.Coords) (f : Buf (Elt F) (oLoc d)) :
    BI.Storable (upEmb : UEmb _ 𝕄) (tileHas m d L f) := by unfold tileHas; infer_instance

/-- The tile of SparseCore `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F]

/-- The call's payloads: what its tiles have before and after. -/
def P : (K (F := F)).Pay (nD := nD) (Val := Elt F) (Name := ℕ) (U := UU) where
  st := fun q d c => match q with | 0 => bigSep Finset.univ fun i => tileHas m d (coordsV c i) (m (oLoc d))
  dn := fun q d c => match q with | 0 => bigSep Finset.univ fun i => tileHas m d (coordsV c i) (maskBuf m d)
  go := fun q d c i => match q with | 0 => tileHas m d (coordsV c i) (m (oLoc d))
  td := fun q d c i => match q with | 0 => tileHas m d (coordsV c i) (maskBuf m d)
  x := fun _ _ => iprop(emp)

instance P_storable : (P (F := F) m).IsStorable where
  st q d c := match q with
    | 0 => (inferInstance : BI.Storable (upEmb : UEmb _ 𝕄) (bigSep Finset.univ fun i => tileHas m d (coordsV c i) (m (oLoc d))))
  dn q d c := match q with
    | 0 => (inferInstance : BI.Storable (upEmb : UEmb _ 𝕄) (bigSep Finset.univ fun i => tileHas m d (coordsV c i) (maskBuf m d)))
  go q d c i := match q with
    | 0 => (inferInstance : BI.Storable (upEmb : UEmb _ 𝕄) (tileHas m d (coordsV c i) (m (oLoc d))))
  td q d c i := match q with
    | 0 => (inferInstance : BI.Storable (upEmb : UEmb _ 𝕄) (tileHas m d (coordsV c i) (maskBuf m d)))

theorem vecSplit : (K (F := F)).VecSplit' (P m) 0 := by
  intro d c
  show (bigSep Finset.univ fun i => tileHas m d (coordsV c i) (m (oLoc d))) ⊢ |={Set.univ}=> iprop(
    (bigSep Finset.univ fun i => tileHas m d (coordsV c i) (m (oLoc d)))
      ∗ ((bigSep Finset.univ fun i => tileHas m d (coordsV c i) (maskBuf m d)) -∗ bigSep Finset.univ fun i => tileHas m d (coordsV c i) (maskBuf m d)))
  iintro H; imodintro
  isplitl [H]; · iexact H
  iintro H; iexact H

/-! ## A tile's scratch and semaphores -/

section Tile
variable (d : Dev nD) (L : grid0.Coords)

abbrev cell0 : GSem nD τ sig := (thr d L, .dma cc0_scoped0.sem)
abbrev cell1 : GSem nD τ sig := (thr d L, .dma cc0_scoped1.sem)
abbrev cell2 : GSem nD τ sig := (thr d L, .dma cc0_scoped2.sem)
abbrev cell3 : GSem nD τ sig := (thr d L, .dma cc0_scoped3.sem)

omit [FloatOps F] in
theorem cell_ne {a b : DmaSem sig} (h : a ≠ b) : ((thr d L, .dma a) : GSem nD τ sig) ≠ (thr d L, .dma b) :=
  fun e => h (SemLoc.dma.inj (Prod.mk.inj e).2)

omit [FloatOps F] in
theorem cell_own {a : DmaSem sig} (h : (SemLoc.dma a : SemLoc sig).isScoped .scVector = true) :
    ((thr d L, .dma a) : GSem nD τ sig) ∈ ownCells (thr d L) := mem_ownCells.mpr ⟨rfl, h⟩

omit [FloatOps F] in
/-- The tile's semaphores: the four its copies use, and the rest. -/
theorem ownSems0_V :
    (ownSems0 (thr d L) : sProp 𝕄)
      = iprop(semVal (cell0 d L) 0 ∗ semVal (cell1 d L) 0 ∗ semVal (cell2 d L) 0 ∗ semVal (cell3 d L) 0
          ∗ bigSep (((((ownCells (thr d L)).erase (cell0 d L)).erase (cell1 d L)).erase (cell2 d L)).erase (cell3 d L)) fun g => semVal g 0) := by
  unfold SparseCore.Cfg.ownSems0
  have n10 := cell_ne d L (a := cc0_scoped1.sem) (b := cc0_scoped0.sem) (by decide)
  have n20 := cell_ne d L (a := cc0_scoped2.sem) (b := cc0_scoped0.sem) (by decide)
  have n21 := cell_ne d L (a := cc0_scoped2.sem) (b := cc0_scoped1.sem) (by decide)
  have n30 := cell_ne d L (a := cc0_scoped3.sem) (b := cc0_scoped0.sem) (by decide)
  have n31 := cell_ne d L (a := cc0_scoped3.sem) (b := cc0_scoped1.sem) (by decide)
  have n32 := cell_ne d L (a := cc0_scoped3.sem) (b := cc0_scoped2.sem) (by decide)
  have o0 := cell_own d L (a := cc0_scoped0.sem) (by decide)
  have o1 := cell_own d L (a := cc0_scoped1.sem) (by decide)
  have o2 := cell_own d L (a := cc0_scoped2.sem) (by decide)
  have o3 := cell_own d L (a := cc0_scoped3.sem) (by decide)
  rw [SparseCore.bigSep_erase' o0, SparseCore.bigSep_erase' (Finset.mem_erase.mpr ⟨n10, o1⟩),
    SparseCore.bigSep_erase' (Finset.mem_erase.mpr ⟨n21, Finset.mem_erase.mpr ⟨n20, o2⟩⟩),
    SparseCore.bigSep_erase' (Finset.mem_erase.mpr ⟨n32, Finset.mem_erase.mpr ⟨n31, Finset.mem_erase.mpr ⟨n30, o3⟩⟩⟩)]

omit [FloatOps F] in
/-- The tile's scratch: its two buffers at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.KernelIdeal.Mask
-- ==== Proof.Tile.lean ====
/- A tile's run with its values: from its share of the index array and its two rows of the mask, the tile
   leaves those rows at the mask of the index array. -/
module

public import proofs.«01_k».proof.Proof.Setup

@[expose] public section

noncomputable section

namespace Cert.KernelIdeal.Mask

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The scratch mask as a scatter addresses it -/

theorem pts_piece (k : Fin 64) (f : Buf (Elt F) ((sM).view.loc (thr d L))) :
    (((sM).access (pieceRect k)).loc (thr d L) ↦{fullShare} f : sProp 𝕄) = (sM).view.loc (thr d L) ↦{fullShare} f := rfl

theorem pts_sM (f : Buf (Elt F) ((sM).view.loc (thr d L))) :
    ((sM).view.loc (thr d L) ↦[(sM).view.set]{fullShare} f : sProp 𝕄) = (sM).view.loc (thr d L) ↦{fullShare} f := by
  simp only [Memref.view_whole, View.set_whole]

theorem pts_access (f : Buf (Elt F) ((sM).view.loc (thr d L))) :
    (((sM).access (.whole S32x32)).loc (thr d L) ↦[((sM).access (.whole S32x32)).set]{fullShare} f : sProp 𝕄)
      = (sM).view.loc (thr d L) ↦{fullShare} f := by
  rw [show ((sM).access (.whole S32x32)).set = Finset.univ from Memref.set_access_whole (cc0_scratch1 : Ref sig .scVector)]

theorem pts_stored (f : Buf (Elt F) ((sM).view.loc (thr d L))) (w : Vec F S32x32 .i32) :
    (((sM).access (.whole S32x32)).loc (thr d L) ↦[((sM).access (.whole S32x32)).set]{fullShare}
        (((sM).access (.whole S32x32)).write (Elt F) f w Finset.univ) : sProp 𝕄)
      = (sM).view.loc (thr d L) ↦{fullShare} w := by
  rw [show ((sM).access (.whole S32x32)).write (Elt F) f w Finset.univ = w from
    Memref.write_access_whole_univ (Elt F) (cc0_scratch1 : Ref sig .scVector) f w]
  exact pts_access d L w

theorem marked_access (g : S8x256.Idx → BitVec 32) (r : Fin 8) (k : Nat) (f : Buf (Elt F) ((sM).view.loc (thr d L)))
    (hf : Marked g r k ((sM).view.read (Elt F) f)) : Marked g r k (((sM).access (.whole S32x32)).read (Elt F) f) := by
  rw [show ((sM).access (.whole S32x32)).read (Elt F) f = f from Memref.read_access_whole (Elt F) (cc0_scratch1 : Ref sig .scVector) f]
  exact hf

/-! ## The loops -/

/-- The zeroing: from the pieces below `k` zero, to all of the scratch mask zero. -/
theorem wp_zeroFrom (rest : TileProg F L) (Q : PUnit → sProp 𝕄) : ∀ (fuel k : Nat) (h : k + fuel = 64)
    (f : Buf (Elt F) ((sM).view.loc (thr d L))), ZeroBelow k ((sM).view.read (Elt F) f) →
    iprop(((sM).view.loc (thr d L) ↦{fullShare} f)
        ∗ (∀ g, ⌜ZeroBelow 64 ((sM).view.read (Elt F) g)⌝ -∗ ((sM).view.loc (thr d L) ↦{fullShare} g)
            -∗ wp frame (wpE (defs₀ (F := F)) 𝒱₀ (thr d L) none) Set.univ rest Q))
      ⊢ wp frame (wpE (defs₀ (F := F)) 𝒱₀ (thr d L) none) Set.univ (zeroFrom L sM fuel k h rest) Q := by
  intro fuel
  induction fuel with
  | zero =>
    intro k h f hf
    obtain rfl : k = 64 := by omega
    unfold zeroFrom
    iintro ⟨Hf, Hk⟩
    ispecialize Hk $$ %f
    iapply Hk $$ %hf
    iexact Hf
  | succ fuel ih =>
    intro k h f hf
    have hk : k < 64 := by omega
    have hk' : k + 1 + fuel = 64 := by omega
    unfold zeroFrom zeroStep
    simp only [Prog.lift, Prog.bind_op, Prog.bind_ret]
    iintro ⟨Hf, Hk⟩
    iapply (wp_load 𝒱₀ (thr d L) none Set.univ (m := sM) (S := Finset.univ) (Finset.subset_univ _)) $$ Hf; iintro Hf
    ihave Hf' := (Entails.of_eq (pts_piece d L ⟨k, hk⟩ f).symm) $$ Hf
    iapply (wp_store 𝒱₀ (thr d L) none Set.univ (m := sM) (r := pieceRect ⟨k, hk⟩) (Mk := Finset.univ) (S := Finset.univ) (Finset.subset_univ _)) $$ Hf'; iintro Hf
    iapply (ih (k + 1) hk' (((sM).view.slice (pieceRect ⟨k, hk⟩)).write (Elt F) f (shapeCast S1x16 (k0_pay1 : IVec S16 32) shapeCasts_S16_S1x16) Finset.univ) (zeroBelow_step (sM).view f ⟨k, hk⟩ hf))
    isplitl [Hf]; · iexact Hf
    iexact Hk

/-- The marking of sample `t`'s row: from the groups below `k` marked, to all of them. -/
theorem wp_markFrom (t : Fin 2) (r : Fin 8) (hr : r.val = (sub (smp L (BitVec.ofNat 32 t.val))).toNat)
    (g : Buf (Elt F) ((sI).view.loc (thr d L))) (hg : ∀ x, (show BitVec 32 from (sI).view.read (Elt F) g x).toNat < 1024)
    (rest : TileProg F L) (Q : PUnit → sProp 𝕄) : ∀ (fuel k : Nat) (h : k + fuel = 16)
    (f : Buf (Elt F) ((sM).view.loc (thr d L))), Marked ((sI).view.read (Elt F) g) r k ((sM).view.read (Elt F) f) →
    iprop(((sI).view.loc (thr d L) ↦{fullShare} g) ∗ ((sM).view.loc (thr d L) ↦{fullShare} f)
        ∗ (∀ f', ⌜Marked ((sI).view.read (Elt F) g) r 16 ((sM).view.read (Elt F) f')⌝ -∗ ((sI).view.loc (thr d L) ↦{fullShare} g)
            -∗ ((sM).view.loc (thr d L) ↦{fullShare} f') -∗ wp frame (wpE (defs₀ (F := F)) 𝒱₀ (thr d L) none) Set.univ rest Q))
      ⊢ wp frame (wpE (defs₀ (F := F)) 𝒱₀ (thr d L) none) Set.univ (markFrom L sI sM t fuel k h rest) Q := by
  intro fuel
  induction fuel with
  | zero =>
    intro k h f hf
    obtain rfl : k = 16 := by omega
    unfold markFrom
    iintro ⟨Hg, Hf, Hk⟩
    ispecialize Hk $$ %f
    iapply Hk $$ %hf Hg
    iexact Hf
  | succ fuel ih =>
    intro k h f hf
    have hk : k < 16 := by omega
    have hk' : k + 1 + fuel = 16 := by omega
    unfold markFrom markStep
    simp only [Prog.lift, Prog.bind_op, Prog.bind_ret]
    iintro ⟨Hg, Hf, Hk⟩
    iapply (wp_load 𝒱₀ (thr d L) none Set.univ (m := sI) (S := Finset.univ) (Finset.subset_univ _)) $$ Hg; iintro Hg
    rw [wp_assume_of _ _ _ _ (chk_of_lt (sI).view g L t ⟨k, hk⟩ hg)]
    ihave Hf' := (Entails.of_eq (pts_access d L f).symm) $$ Hf
    iapply (SparseCore.wp_vectorStoreIdx 𝒱₀ (thr d L) none Set.univ (base := sM)) $$ Hf'; iintro Hf'
    ihave Hf := (Entails.of_eq (pts_stored d L f _)) $$ Hf'
    iapply (ih (k + 1) hk' _ (marked_step (sI).view g L t ⟨k, hk⟩ r hr hg _ (marked_access d L _ r k f hf) _))
    isplitl [Hg]; · iexact Hg
    isplitl [Hf]; · iexact Hf
    iexact Hk

/-! ## The value of a row -/

theorem emb_oRow (t : Fin 2) (y : S32x32.Idx) :
    (oRow L t).view.emb y = (ix3 ⟨(smp L (BitVec.ofNat 32 t.val)).toNat, smp_lt L t⟩ (y 0) (y 1) : S64x32x32.Idx) := by
  show (outRect L t).emb (Shape.reshapeEquiv squeezes_S1x32x32_S32x32.numel_eq y) = _
  simp only [pointwise]
  funext a
  apply Fin.ext
  rw [Rect.emb_apply]
  fin_cases a
  · show (smp _ _).toNat + 1 * 0 = (smp _ _).toNat
    omega
  · show 0 + 1 * (y 0).val = (y 0).val
    omega
  · show 0 + 1 * (y 1).val = (y 1).val
    omega

theorem emb_aBlk (t : Fin 2) (r : Fin 8) (hr : r.val = (sub (smp L (BitVec.ofNat 32 t.val))).toNat) (n : Fin 256) :
    (aBlk L t).view.emb (ix2 r n : S8x256.Idx)
      = (ix2 ⟨(smp L (BitVec.ofNat 32 t.val)).toNat, smp_lt L t⟩ ⟨768 + n.val, by omega⟩ : S64x1024.Idx) := by
  show (idxRect L t).emb (ix2 r n) = _
  have hb := blk_smp L t
  have hs := sub_smp L t
  funext a
  apply Fin.ext
  rw [Rect.emb_apply]
  fin_cases a
  · show (blk _).toNat + 1 * r.val = (smp _ _).toNat
    omega
  · show 768 + 1 * n.val = 768 + n.val
    omega

/-- What a round lands in the index scratch. -/
abbrev blkOf (t : Fin 2) : Vec F S8x256 .i32 := (aBlk L t).view.read (Elt F) (m (aLoc d))

theorem blkOf_apply (t : Fin 2) (x : S8x256.Idx) : blkOf m d L t x = m (aLoc d) ((aBlk L t).view.emb x) :=
  (View.read_apply _ _).trans (cast_eq _ _)

theorem row_mask (t : Fin 2) (r : Fin 8) (hr : r.val = (sub (smp L (BitVec.ofNat 32 t.val))).toNat)
    (f : S32x32.Idx → BitVec 32) (hf : Marked (blkOf m d L t) r 16 f) (y : S32x32.Idx) :
    f y = maskBuf m d ((oRow L t).view.emb y) := by
  rw [hf y, emb_oRow]
  unfold maskBuf maskOf
  refine if_congr ⟨?_, ?_⟩ rfl rfl
  · rintro ⟨n, hn, e⟩
    refine ⟨⟨768 + n.val, by omega⟩, by show 768 ≤ 768 + n.val; omega, ?_⟩
    rw [blkOf_apply, emb_aBlk L t r hr] at e
    exact e
  · rintro ⟨n, hn, e⟩
    have hn' := n.isLt
    refine ⟨⟨n.val - 768, by omega⟩, by show n.val - 768 < 256; omega, ?_⟩
    rw [blkOf_apply, emb_aBlk L t r hr]
    refine Eq.trans ?_ e
    have : (⟨768 + (n.val - 768), by omega⟩ : Fin 1024) = n := Fin.ext (by show 768 + (n.val - 768) = n.val; omega)
    rw [this]; rfl

/-- The row after the copy out, at the places of the row. -/
theorem row_landed (t : Fin 2) (r : Fin 8) (hr : r.val = (sub (smp L (BitVec.ofNat 32 t.val))).toNat)
    (f : Buf (Elt F) ((sM).view.loc (thr d L))) (hf : Marked (blkOf m d L t) r 16 ((sM).view.read (Elt F) f)) (fo : Buf (Elt F) (oLoc d)) :
    ((oRow L t).view.loc (thr d L) ↦[(oRow L t).view.set]{fullShare}
        ((oRow L t).view.write (Elt F) fo ((sM).view.read (Elt F) f) Finset.univ) : sProp 𝕄)
      = (oRow L t).view.loc (thr d L) ↦[(oRow L t).view.set]{fullShare} maskBuf m d := by
  refine pointsTo_congr fun p hp => ?_
  obtain ⟨y, -, rfl⟩ := Finset.mem_map.mp hp
  rw [View.write_emb_of_mem _ _ (Finset.mem_univ _)]
  exact (cast_eq _ _).trans (row_mask m d L t r hr _ hf y)

/-! ## A round -/

theorem wp_round (t : Fin 2) (sin sout : DmaSems sig S_) (q : PosShare TreeShare) (hpre : PreOK m)
    (fo : Buf (Elt F) (oLoc d)) (O : CellTallies nD τ sig (HIx 1)) (W : Waits sig (HIx 1)) (hO : ∀ g, O g none = 0)
    (rest : TileProg F L) (Q : PUnit → sProp 𝕄) :
    iprop(levAts (K (F := F)).L (K (F := F)).lev ∗ ((aV).view.loc (thr d L) ↦{q} m (aLoc d))
        ∗ (∃ g, (sI).view.loc (thr d L) ↦{fullShare} g) ∗ (∃ f, (sM).view.loc (thr d L) ↦{fullShare} f)
        ∗ ((oRow L t).view.loc (thr d L) ↦[(oRow L t).view.set]{fullShare} fo)
        ∗ semVal (thr d L, SemLoc.dma sin.sem) 0 ∗ semVal (thr d L, SemLoc.dma sout.sem) 0 ∗ owes (thr d L) O W
        ∗ (iprop(((aV).view.loc (thr d L) ↦{q} m (aLoc d))
            ∗ (∃ g, (sI).view.loc (thr d L) ↦{fullShare} g) ∗ (∃ f, (sM).view.loc (thr d L) ↦{fullShare} f)
            ∗ ((oRow L t).view.loc (thr d L) ↦[(oRow L t).view.set]{fullShare} maskBuf m d)
            ∗ semVal (thr d L, SemLoc.dma sin.sem) 0 ∗ semVal (thr d L, SemLoc.dma sout.sem) 0
            ∗ ∃ W', ⌜∀ p ∈ W', p ∈ W ∨ p.2 = none⌝ ∗ owes (thr d L) O W')
          -∗ wp frame (wpE (defs₀ (F := F)) 𝒱₀ (thr d L) none) Set.univ rest Q))
      ⊢ wp frame (wpE (defs₀ (F := F)) 𝒱₀ (thr d L) none) Set.univ
          (round L aV oV sI (Memref.isWhole_whole _) sM (Memref.isWhole_whole _) t sin sout rest) Q := by
  unfold round
  simp only [Prog.lift, Prog.bind_op, Prog.bind_ret]
  obtain ⟨r, hr⟩ : ∃ r : Fin 8, r.val = (sub (smp L (BitVec.ofNat 32 t.val))).toNat :=
    ⟨⟨(sub (smp L (BitVec.ofNat 32 t.val))).toNat, by rw [sub_smp]; omega⟩, rfl⟩
  iintro ⟨#Hlv, Ha, ⟨%g, Hg⟩, ⟨%f, Hf⟩, Ho, Hin, Hout, HO, Hk⟩
  ihave Hs := (pointsTo_split_subset (Finset.subset_univ (aBlk L t).view.set)).1 $$ Ha
  icases Hs with ⟨Hs, Hrest⟩
  iapply (Transfers.wp_dmaLocal countersEmb 𝒱₀ (thr d L) none (src := aBlk L t) (dst := sI) (none : HIx 1) _ rfl
    (View.amount_pos _ _ (show 0 < S8x256.numel by decide)) (Finset.subset_univ _)) $$ [Hs Hg Hin]
  · isplitl [Hs]; · iexact Hs
    isplitl [Hg]; · iexact Hg
    iexact Hin
  iintro Hfl
  iapply (Transfers.wp_waitLocalO countersEmb 𝒱₀ (thr d L) none (none : HIx 1) (O := O) (W := W) rfl) $$ [Hfl HO]
  · isplitl [Hfl]; · iexact Hfl
    isplitl [HO]; · iexact HO
    iapply ((K (F := F)).mayWait_none (SemLoc.dma sin.sem) hO); iexact Hlv
  iintro ⟨⟨Hg, Hs⟩, Hin, HO⟩
  ihave Hg := (Entails.of_eq (congrArg (fun w => ((sI).view.loc (thr d L) ↦{fullShare} w : sProp 𝕄))
    (show (sI).view.write (Elt F) g (ReadAs.same.apply ((aBlk L t).view.read (Elt F) (m (aLoc d)))) Finset.univ = blkOf m d L t from
      View.write_whole_univ _ _ _))) $$ Hg
  iapply (wp_zeroFrom d L _ Q 64 0 rfl f (zeroBelow_zero _))
  isplitl [Hf]; · iexact Hf
  iintro %f0 %hf0 Hf
  iapply (wp_markFrom d L t r hr (blkOf m d L t) (fun x => by
    show (show BitVec 32 from blkOf m d L t x).toNat < 1024
    rw [blkOf_apply]; exact hpre d _) _ Q 16 0 rfl f0 (marked_zero _ r _ hf0))
  isplitl [Hg]; · iexact Hg
  isplitl [Hf]; · iexact Hf
  iintro %f1 %hf1 Hg Hf
  iapply (Transfers.wp_dmaLocal countersEmb 𝒱₀ (thr d L) none (src := sM) (dst := oRow L t) (q := fullShare) (fs := f1) (fd := fo) (none : HIx 1) _ rfl
    (View.amount_pos _ _ (show 0 < S32x32.numel by decide)) (Finset.Subset.refl _)) $$ [Hf Ho Hout]
  · isplitl [Hf]
    · iapply (Entails.of_eq (pts_sM d L f1).symm); iexact Hf
    isplitl [Ho]; · iexact Ho
    iexact Hout
  iintro Hfl
  iapply (Transfers.wp_waitLocalO countersEmb 𝒱₀ (thr d L) none (none : HIx 1) (O := O) (W := insert (SemLoc.dma sin.sem, none) W) rfl) $$ [Hfl HO]
  · isplitl [Hfl]; · iexact Hfl
    isplitl [HO]; · iexact HO
    iapply ((K (F := F)).mayWait_none (SemLoc.dma sout.sem) hO); iexact Hlv
  iintro ⟨⟨Ho, Hf⟩, Hout, HO⟩
  ihave Ha := (pointsTo_split_subset (ℓ := (aV).view.loc (thr d L)) (q := q) (f := m (aLoc d)) (Finset.subset_univ (aBlk L t).view.set)).2 $$ [Hs Hrest]
  · isplitl [Hs]; · iexact Hs
    iexact Hrest
  iapply Hk
  isplitl [Ha]; · iexact Ha
  isplitl [Hg]; · iexists _; iexact Hg
  isplitl [Hf]
  · iexists f1
    iapply (Entails.of_eq (pts_sM d L f1)); iexact Hf
  isplitl [Ho]
  · iapply (Entails.of_eq (row_landed m d L t r hr f1 hf1 fo)); iexact Ho
  isplitl [Hin]; · iexact Hin
  isplitl [Hout]; · iexact Hout
  iexists (insert (SemLoc.dma sout.sem, (none : HIx 1)) (insert (SemLoc.dma sin.sem, none) W)); isplitr
  · ipureintro; intro p hp
    rcases Finset.mem_insert.mp hp with rfl | hp
    · exact .inr rfl
    rcases Finset.mem_insert.mp hp with rfl | hp
    · exact .inr rfl
    · exact .inl hp
  iexact HO

/-! ## The tile -/

/-- The tile's kernel, as the launch names it. -/
abbrev kern (L : grid0.Coords) : TileProg F L :=
  cc0__sc_mask_body L aV (Memref.isWhole_whole _) oV (Memref.isWhole_whole _) sI (Memref.isWhole_whole _) sM (Memref.isWhole_whole _)
    cc0_scoped0 cc0_scoped1 cc0_scoped2 cc0_scoped3

theorem tile_body (hpre : PreOK m) (O : CellTallies nD τ sig (HIx 1)) (W : Waits sig (HIx 1)) (hO : ∀ g, O g none = 0) :
    iprop(levAts (K (F := F)).L (K (F := F)).lev ∗ emp ∗ tileHas m d L (m (oLoc d))
        ∗ scopedBufs (thr d L) ∗ scopedSems0 (thr d L) ∗ owes (thr d L) O W)
      ⊢ wp frame (wpE (defs₀ (F := F)) 𝒱₀ (thr d L) none) Set.univ (kern L)
          fun _ => iprop(tileHas m d L (maskBuf m d) ∗ scopedBufs (thr d L) ∗ scopedSems0 (thr d L)
            ∗ ∃ W', ⌜∀ p ∈ W', p ∈ W ∨ p.2 = none⌝ ∗ owes (thr d L) O W') := by
  unfold kern
  rw [body_eq, (K (F := F)).scopedBufs_V facts d (cV L) (jV L), SparseCore.Cfg.scopedSems0_V (Val := Elt F) d (cV L) (jV L), ownSems0_V, ownBufs_V]
  unfold tileHas
  iintro ⟨#Hlv, -, ⟨Ha, Ho0, Ho1⟩, ⟨Hg, Hf, Hbufs⟩, ⟨H0, H1, H2, H3, Hsems⟩, HO⟩
  iapply (wp_round m d L 0 cc0_scoped0 cc0_scoped1 (tileShare L) hpre (m (oLoc d)) O W hO)
  isplitr; · iexact Hlv
  isplitl [Ha]; · iexact Ha
  isplitl [Hg]; · iexact Hg
  isplitl [Hf]; · iexact Hf
  isplitl [Ho0]; · iexact Ho0
  isplitl [H0]; · iexact H0
  isplitl [H1]; · iexact H1
  isplitl [HO]; · iexact HO
  iintro ⟨Ha, Hg, Hf, Ho0, H0, H1, %W1, %hW1, HO⟩
  iapply (wp_round m d L 1 cc0_scoped2 cc0_scoped3 (tileShare L) hpre (m (oLoc d)) O W1 hO)
  isplitr; · iexact Hlv
  isplitl [Ha]; · iexact Ha
  isplitl [Hg]; · iexact Hg
  isplitl [Hf]; · iexact Hf
  isplitl [Ho1]; · iexact Ho1
  isplitl [H2]; · iexact H2
  isplitl [H3]; · iexact H3
  isplitl [HO]; · iexact HO
  iintro ⟨Ha, Hg, Hf, Ho1, H2, H3, %W2, %hW2, HO⟩
  rw [Prog.pure_eq_ret, wp_ret]; imodintro
  isplitl [Ha Ho0 Ho1]
  · isplitl [Ha]; · iexact Ha
    isplitl [Ho0]; · iexact Ho0
    iexact Ho1
  isplitl [Hg Hf Hbufs]
  · isplitl [Hg]; · iexact Hg
    isplitl [Hf]; · iexact Hf
    iexact Hbufs
  isplitl [H0 H1 H2 H3 Hsems]
  · isplitl [H0]; · iexact H0
    isplitl [H1]; · iexact H1
    isplitl [H2]; · iexact H2
    isplitl [H3]; · iexact H3
    iexact Hsems
  iexists W2; isplitr
  · ipureintro; intro p hp
    rcases hW2 p hp with h | h
    · exact hW1 p h
    · exact .inr h
  iexact HO

/-! ## The launch's obligation -/

theorem defs₀_vector (c : Fin τ.nSC) (s : Fin τ.nSub) :
    defs₀ (F := F) (.scVector c s) 0 () = SparseCore.onTile hcore0 hsub0 (fun c s => kern (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  have key := (tile_body m d (coordsV ⟨_, hc.1⟩ ⟨_, hc.2⟩) hpre O W hO).trans (wp_mono frame _ _ fun _ => obl_post (q := 0))
  rw [defs₀_vector]; simp only [SparseCore.onTile, hc, and_self, ↓reduceDIte]
  generalize kern (F := F) (coordsV ⟨((K (F := F)).core 0 c).val, hc.1⟩ ⟨((K (F := F)).sub 0 i).val, hc.2⟩) = p at key ⊢
  exact key

end Cert.KernelIdeal.Mask
-- ==== Proof.Rows.lean ====
/- The launch's split: the whole index array and the whole mask, dealt to the tiles, each its share of the
   index array and its two rows of the mask; and back. -/
module

public import proofs.«01_k».proof.Proof.Tile

@[expose] public section

noncomputable section

namespace Cert.KernelIdeal.Mask

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD)

/-- The mask rows round `t` of the tile at `L` writes: that of its sample. -/
theorem mem_rowSet (L : grid0.Coords) (t : Fin 2) (p : S64x32x32.Idx) :
    p ∈ rowSet L t ↔ (p 0).val = 2 * (2 * (L 1).val + (L 0).val) + t.val := by
  rw [← smp_toNat L t]
  unfold rowSet View.set
  simp only [Finset.mem_map, Finset.mem_univ, true_and]
  constructor
  · rintro ⟨y, rfl⟩
    exact congrArg (fun q : S64x32x32.Idx => (q 0).val) (emb_oRow L t y)
  · intro h
    refine ⟨ix2 (p 1) (p 2), (emb_oRow L t _).trans ?_⟩
    refine Eq.trans ?_ (ix3_eta (n0 := 64) (n1 := 32) (n2 := 32) p)
    exact congrArg (fun n => (ix3 n (p 1) (p 2) : S64x32x32.Idx)) (Fin.ext h.symm)

/-- The tiles' rows: sample by SparseCore, subcore and round. -/
abbrev part (x : Fin 2 × Fin 16 × Fin 2) : Finset S64x32x32.Idx := rowSet (coordsV x.1 x.2.1) x.2.2

theorem part_disjoint (x y : Fin 2 × Fin 16 × Fin 2) (h : x ≠ y) : Disjoint (part x) (part y) := by
  rw [Finset.disjoint_left]
  intro p hp hq
  rw [mem_rowSet] at hp hq
  apply h
  have hp : (p 0).val = 2 * (2 * x.2.1.val + x.1.val) + x.2.2.val := hp
  have hq : (p 0).val = 2 * (2 * y.2.1.val + y.1.val) + y.2.2.val := hq
  have := x.1.isLt; have := x.2.2.isLt; have := y.1.isLt; have := y.2.2.isLt
  exact Prod.ext (Fin.ext (by omega)) (Prod.ext (Fin.ext (by omega)) (Fin.ext (by omega)))

theorem part_cover : Finset.univ.biUnion part = (Finset.univ : Finset S64x32x32.Idx) := by
  ext p
  simp only [Finset.mem_biUnion, Finset.mem_univ, true_and, iff_true]
  have hp : (p 0).val < 64 := (p 0).isLt
  refine ⟨(⟨(p 0).val / 2 % 2, by omega⟩, ⟨(p 0).val / 4, by omega⟩, ⟨(p 0).val % 2, by omega⟩), ?_⟩
  rw [mem_rowSet]
  show (p 0).val = 2 * (2 * ((p 0).val / 4) + (p 0).val / 2 % 2) + (p 0).val % 2
  omega

theorem mask_rows (f : Buf (Elt F) (oLoc d)) :
    (oLoc d ↦{fullShare} f : sProp 𝕄)
      = bigSep Finset.univ fun c : Fin 2 => bigSep Finset.univ fun i : Fin 16 =>
          iprop((oLoc d ↦[rowSet (coordsV c i) 0]{fullShare} f) ∗ (oLoc d ↦[rowSet (coordsV c i) 1]{fullShare} f)) := by
  have h := pointsTo_biUnion (Val := Elt F) (Ix := HIx 1) (Name := ℕ) (U := UU) (Lvl := ℕ) (ℓ := oLoc d) (q := fullShare) (f := f) Finset.univ part
    (fun x _ y _ hxy => part_disjoint x y hxy)
  rw [show (Finset.univ.biUnion part) = (Finset.univ : Finset S64x32x32.Idx) from part_cover] at h
  refine h.trans ?_
  rw [bigSep_univ_prod]
  refine bigSep_congr fun c _ => ?_
  rw [bigSep_univ_prod]
  refine bigSep_congr fun i _ => ?_
  exact bigSep_univ_eq_bigSepL [(0 : Fin 2), (1 : Fin 2)] (by decide) (by decide) _

theorem index_shares :
    (aLoc d ↦{fullShare} m (aLoc d) : sProp 𝕄)
      = bigSep Finset.univ fun c : Fin 2 => bigSep Finset.univ fun i : Fin 16 =>
          (aLoc d ↦{tileShare (coordsV c i)} m (aLoc d)) := by
  rw [Transfers.pointsTo_deal (Finset.univ : Finset (Fin 2)) ⟨0, Finset.mem_univ _⟩ fullShare]
  refine bigSep_congr fun c _ => ?_
  exact Transfers.pointsTo_deal (Finset.univ : Finset (Fin 16)) ⟨0, Finset.mem_univ _⟩ _

/-- What the tiles of a device have, all together: the index array and the mask. -/
theorem tiles_eq (f : Buf (Elt F) (oLoc d)) :
    (bigSep Finset.univ fun c : Fin 2 => bigSep Finset.univ fun i : Fin 16 => tileHas m d (coordsV c i) f : sProp 𝕄)
      = iprop((aLoc d ↦{fullShare} m (aLoc d)) ∗ (oLoc d ↦{fullShare} f)) := by
  rw [index_shares, mask_rows, ← bigSep_sep']
  refine bigSep_congr fun c _ => ?_
  rw [← bigSep_sep']
  rfl

end Cert.KernelIdeal.Mask
-- ==== Proof.Host.lean ====
/- The host's part of the kernel program between the SparseCore call and the block pipeline: the program as
   those pieces, and what the host's operations leave in the arrays the pipeline reads. -/
module

public import proofs.«01_k».proof.Proof.Setup
public import Idealize.ShloMosaic.Lib.Routing.Words
public import Idealize.ShloMosaic.Lib.Pointwise.Reshape

@[expose] public section

noncomputable section

namespace Cert.KernelIdeal.Mask

open Cert.KernelIdeal.Gen
open Idealize.ShloMosaic
open Idealize.ShloMosaic.StableHlo
open Idealize.SL.Sem

variable {F : FTy → Type} [FloatOps F]

/-- The host's operations between the two calls, in order. -/
abbrev hostOps : List (HloOp τ sig (Elt F)) :=
  [ StableHlo.reshape main_arg1 main_v1 (rfl : (.f32 : EltTy) = .f32) shapeCasts_S1x1x768_S16x48,
    StableHlo.reshape main_v1 main_v2 (rfl : (.f32 : EltTy) = .f32) shapeCasts_S16x48_S1x16x1x48,
    StableHlo.unary main_v2 main_v3 (broadcastInDim S32x16x32x48 ![0, 1, 2, 3] bcast_S1x16x1x48_S32x16x32x48_0_1_2_3 : (⟨S1x16x1x48, .f32⟩ : BufTy).Contents (Elt F) → (⟨S32x16x32x48, .f32⟩ : BufTy).Contents (Elt F)),
    StableHlo.reshape main_v3 main_v4 (rfl : (.f32 : EltTy) = .f32) shapeCasts_S32x16x32x48_S512x1536,
    StableHlo.nullary main_v5 (iotaInDim S512 32 0),
    StableHlo.unary main_v5 main_v6 (broadcastInDim S512x1 ![0] bcast_S512_S512x1_0 : (⟨S512, .i32⟩ : BufTy).Contents (Elt F) → (⟨S512x1, .i32⟩ : BufTy).Contents (Elt F)),
    StableHlo.nullary main_c (constantI S_ 32 16#32),
    StableHlo.TRef.unary (.of main_c) main_call0.v0 id,
    StableHlo.TRef.unary main_call0.v0 main_call0.v1 (broadcastInDim S512x1 ![] bcast_S_S512x1),
    StableHlo.TRef.binary (.of main_v6) main_call0.v1 main_call0.v2 Host.divsi,
    StableHlo.TRef.unary (.of main_v6) main_call0.v3 signi,
    StableHlo.TRef.unary main_call0.v0 main_call0.v4 signi,
    StableHlo.TRef.unary main_call0.v4 main_call0.v5 (broadcastInDim S512x1 ![] bcast_S_S512x1),
    StableHlo.TRef.binary main_call0.v3 main_call0.v5 main_call0.v6 (cmpi .ne),
    StableHlo.TRef.unary main_call0.v0 main_call0.v7 (broadcastInDim S512x1 ![] bcast_S_S512x1),
    StableHlo.TRef.binary (.of main_v6) main_call0.v7 main_call0.v8 Host.remsi,
    StableHlo.TRef.nullary main_call0.c (constantI S_ 32 0#32),
    StableHlo.TRef.unary main_call0.c main_call0.v9 (broadcastInDim S512x1 ![] bcast_S_S512x1),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S512x1 ![] bcast_S_S512x1),
    StableHlo.TRef.binary main_call0.v2 main_call0.v12 main_call0.v13 subi,
    StableHlo.TRef.ternary main_call0.v11 main_call0.v13 main_call0.v2 main_call0.call0.v0 select,
    StableHlo.nullary main_v8 (iotaInDim S32 32 0),
    StableHlo.unary main_v8 main_v9 (broadcastInDim S1x32 ![1] bcast_S32_S1x32_1 : (⟨S32, .i32⟩ : BufTy).Contents (Elt F) → (⟨S1x32, .i32⟩ : BufTy).Contents (Elt F)),
    StableHlo.unary main_v7 main_v10 (broadcastInDim S512x32 ![0, 1] bcast_S512x1_S512x32_0_1 : (⟨S512x1, .i32⟩ : BufTy).Contents (Elt F) → (⟨S512x32, .i32⟩ : BufTy).Contents (Elt F)),
    StableHlo.unary main_v9 main_v11 (broadcastInDim S512x32 ![0, 1] bcast_S1x32_S512x32_0_1 : (⟨S1x32, .i32⟩ : BufTy).Contents (Elt F) → (⟨S512x32, .i32⟩ : BufTy).Contents (Elt F)),
    StableHlo.binary main_v10 main_v11 main_v12 (cmpi .eq : (⟨S512x32, .i32⟩ : BufTy).Contents (Elt F) → (⟨S512x32, .i32⟩ : BufTy).Contents (Elt F) → (⟨S512x32, .i1⟩ : BufTy).Contents (Elt F)),
    StableHlo.unary main_v12 main_v13 (uitofp .bf16 : (⟨S512x32, .i1⟩ : BufTy).Contents (Elt F) → (⟨S512x32, .bf16⟩ : BufTy).Contents (Elt F)),
    StableHlo.nullary main_v14 (iotaInDim S1536 32 0),
    StableHlo.unary main_v14 main_v15 (broadcastInDim S1x1536 ![1] bcast_S1536_S1x1536_1 : (⟨S1536, .i32⟩ : BufTy).Contents (Elt F) → (⟨S1x1536, .i32⟩ : BufTy).Contents (Elt F)),
    StableHlo.nullary main_c_0 (constantI S_ 32 48#32),
    StableHlo.TRef.unary (.of main_c_0) main_call1.v0 id,
    StableHlo.TRef.unary main_call1.v0 main_call1.v1 (broadcastInDim S1x1536 ![] bcast_S_S1x1536),
    StableHlo.TRef.binary (.of main_v15) main_call1.v1 main_call1.v2 Host.divsi,
    StableHlo.TRef.unary (.of main_v15) main_call1.v3 signi,
    StableHlo.TRef.unary main_call1.v0 main_call1.v4 signi,
    StableHlo.TRef.unary main_call1.v4 main_call1.v5 (broadcastInDim S1x1536 ![] bcast_S_S1x1536),
    StableHlo.TRef.binary main_call1.v3 main_call1.v5 main_call1.v6 (cmpi .ne),
    StableHlo.TRef.unary main_call1.v0 main_call1.v7 (broadcastInDim S1x1536 ![] bcast_S_S1x1536),
    StableHlo.TRef.binary (.of main_v15) main_call1.v7 main_call1.v8 Host.remsi,
    StableHlo.TRef.nullary main_call1.c (constantI S_ 32 0#32),
    StableHlo.TRef.unary main_call1.c main_call1.v9 (broadcastInDim S1x1536 ![] bcast_S_S1x1536),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1x1536 ![] bcast_S_S1x1536),
    StableHlo.TRef.binary main_call1.v2 main_call1.v12 main_call1.v13 subi,
    StableHlo.TRef.ternary main_call1.v11 main_call1.v13 main_call1.v2 main_call1.call0.v0 select,
    StableHlo.nullary main_v17 (iotaInDim S32 32 0),
    StableHlo.unary main_v17 main_v18 (broadcastInDim S32x1 ![0] bcast_S32_S32x1_0 : (⟨S32, .i32⟩ : BufTy).Contents (Elt F) → (⟨S32x1, .i32⟩ : BufTy).Contents (Elt F)),
    StableHlo.unary main_v16 main_v19 (broadcastInDim S32x1536 ![0, 1] bcast_S1x1536_S32x1536_0_1 : (⟨S1x1536, .i32⟩ : BufTy).Contents (Elt F) → (⟨S32x1536, .i32⟩ : BufTy).Contents (Elt F)),
    StableHlo.unary main_v18 main_v20 (broadcastInDim S32x1536 ![0, 1] bcast_S32x1_S32x1536_0_1 : (⟨S32x1, .i32⟩ : BufTy).Contents (Elt F) → (⟨S32x1536, .i32⟩ : BufTy).Contents (Elt F)),
    StableHlo.binary main_v19 main_v20 main_v21 (cmpi .eq : (⟨S32x1536, .i32⟩ : BufTy).Contents (Elt F) → (⟨S32x1536, .i32⟩ : BufTy).Contents (Elt F) → (⟨S32x1536, .i1⟩ : BufTy).Contents (Elt F)),
    StableHlo.unary main_v21 main_v22 (uitofp .bf16 : (⟨S32x1536, .i1⟩ : BufTy).Contents (Elt F) → (⟨S32x1536, .bf16⟩ : BufTy).Contents (Elt F)),
    StableHlo.reshape main_arg0 main_v23 (rfl : (.f32 : EltTy) = .f32) shapeCasts_S64x512x512x3_S64x512x1536 ]

/-- The host's last operation: the pipeline's result in the shape of the image. -/
abbrev tailOp : HloOp τ sig (Elt F) :=
  StableHlo.reshape main_v24 main_v25 (rfl : (.f32 : EltTy) = .f32) shapeCasts_S64x512x1536_S64x512x512x3

set_option maxRecDepth 8192 in
set_option maxHeartbeats 2000000 in
/-- The program: the SparseCore call, the host's operations, the pipeline, the last reshape. -/
theorem main_eq (d : Dev nD) :
    main (F := F) d = (SparseCore.Cfg.run (K (F := F)) d 0 >>= fun _ => seq (hostOps (F := F)) >>= fun _ =>
      (Prog.lift (.customCall (SparseCore.inner (Pipeline.entry 0)) ()) >>= fun _ =>
        seq [tailOp (F := F)] >>= fun _ => pure ⟨⟩)) := rfl

theorem hostOps_fresh : ∀ op ∈ hostOps (F := F), op.fresh = ∅ := by
  intro op h
  repeat' (rcases List.mem_cons.mp h with rfl | h; · rfl)
  nomatch h

end Cert.KernelIdeal.Mask
-- ==== Proof.HostValue.lean ====
/- What the host's operations leave in the arrays the block pipeline reads: the token tiled over the image, the
   two 0/1 matrices that expand a mask of patches to a mask of words, and the image with its last two axes joined. -/
module

public import proofs.«01_k».proof.Proof.Host
public import Idealize.ShloMosaic.Lib.Pointwise

@[expose] public section

noncomputable section

namespace Cert.KernelIdeal.Mask

open Cert.KernelIdeal.Gen
open Idealize.ShloMosaic
open Idealize.ShloMosaic.StableHlo
open Idealize.SL.Sem

variable {F : FTy → Type} [FloatOps F]

/-- The token over the rows and words of an image: word `q` of row `r` is word `48 (r mod 16) + q mod 48` of it. -/
def tokTile (tok : S1x1x768.Idx → F .f32) : S512x1536.Idx → F .f32 := fun p =>
  tok (ix3 0 0 ⟨(p 0).val % 16 * 48 + (p 1).val % 48, by have := Nat.mod_lt (p 0).val (show 0 < 16 by omega); have := Nat.mod_lt (p 1).val (show 0 < 48 by omega); omega⟩)

/-- Row `r` of an image lies in row `r / 16` of patches. -/
def rowsMat : S512x32.Idx → F .bf16 := fun p => FloatOps.uitofp .bf16 (if (p 0).val / 16 = (p 1).val then 1#1 else 0#1)

/-- Word `q` of a row lies in column `q / 48` of patches. -/
def colsMat : S32x1536.Idx → F .bf16 := fun p => FloatOps.uitofp .bf16 (if (p 1).val / 48 = (p 0).val then 1#1 else 0#1)

/-- The image with its last two axes joined. -/
def imgWords (x : S64x512x512x3.Idx → F .f32) : S64x512x1536.Idx → F .f32 := shapeCast S64x512x1536 x shapeCasts_S64x512x512x3_S64x512x1536

theorem eq_word {a b : Nat} (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; rw [if_pos rfl]; simp
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    simp only [beq_eq_false_iff_ne.mpr hne]
    rfl

theorem rows_word (r : Fin 512) (i : Fin 32) :
    cmpi .eq (broadcastInDim S512x32 ![0, 1] bcast_S512x1_S512x32_0_1
        (Routing.pyDiv bcast_S_S512x1 (broadcastInDim S512x1 ![0] bcast_S512_S512x1_0 (iotaInDim S512 32 0)) (constantI S_ 32 16#32)))
      (broadcastInDim S512x32 ![0, 1] bcast_S1x32_S512x32_0_1 (broadcastInDim S1x32 ![1] bcast_S32_S1x32_1 (iotaInDim S32 32 0))) (ix2 r i)
      = if r.val / 16 = i.val then 1#1 else 0#1 := by
  have hr := r.isLt
  have hi := i.isLt
  rw [← eq_word (show r.val / 16 < 2 ^ 32 by omega) (show i.val < 2 ^ 32 by omega)]
  refine congrArg₂ (IntOp.cmpi .eq) ?_ ?_
  · refine Eq.trans (b := Routing.pyDiv bcast_S_S512x1 (broadcastInDim S512x1 ![0] bcast_S512_S512x1_0 (iotaInDim S512 32 0)) (constantI S_ 32 16#32) (ix2 r 0)) ?_ ?_
    · simp only [pointwise]; rfl
    · exact Routing.pyDiv_ap _ _ _ _ rfl rfl (by omega) (by omega) (by omega)
  · simp only [pointwise]; rfl

theorem cols_word (i : Fin 32) (q : Fin 1536) :
    cmpi .eq (broadcastInDim S32x1536 ![0, 1] bcast_S1x1536_S32x1536_0_1
        (Routing.pyDiv bcast_S_S1x1536 (broadcastInDim S1x1536 ![1] bcast_S1536_S1x1536_1 (iotaInDim S1536 32 0)) (constantI S_ 32 48#32)))
      (broadcastInDim S32x1536 ![0, 1] bcast_S32x1_S32x1536_0_1 (broadcastInDim S32x1 ![0] bcast_S32_S32x1_0 (iotaInDim S32 32 0))) (ix2 i q)
      = if q.val / 48 = i.val then 1#1 else 0#1 := by
  have hq := q.isLt
  have hi := i.isLt
  rw [← eq_word (show q.val / 48 < 2 ^ 32 by omega) (show i.val < 2 ^ 32 by omega)]
  refine congrArg₂ (IntOp.cmpi .eq) ?_ ?_
  · refine Eq.trans (b := Routing.pyDiv bcast_S_S1x1536 (broadcastInDim S1x1536 ![1] bcast_S1536_S1x1536_1 (iotaInDim S1536 32 0)) (constantI S_ 32 48#32) (ix2 0 q)) ?_ ?_
    · simp only [pointwise]; rfl
    · exact Routing.pyDiv_ap _ _ _ _ rfl rfl (by omega) (by omega) (by omega)
  · simp only [pointwise]; rfl

variable (V : Valuation τ sig (Elt F))

theorem host_tok : after (hostOps (F := F)) V (Proc.devRef .tc main_v4) = tokTile (V (Proc.devRef .tc main_arg1)) := by
  after_results_simp
  funext p
  obtain ⟨r, q, rfl⟩ : ∃ (r : Fin 512) (q : Fin 1536), p = ix2 r q := ⟨p 0, p 1, (ix2_eta p).symm⟩
  show shapeCast S512x1536 (broadcastInDim S32x16x32x48 ![0, 1, 2, 3] bcast_S1x16x1x48_S32x16x32x48_0_1_2_3
    (shapeCast S1x16x1x48 (shapeCast S16x48 (V (Proc.devRef .tc main_arg1)) shapeCasts_S1x1x768_S16x48) shapeCasts_S16x48_S1x16x1x48))
    shapeCasts_S32x16x32x48_S512x1536 (ix2 r q) = _
  simp only [pointwise, tokTile]
  rfl

theorem host_rows : after (hostOps (F := F)) V (Proc.devRef .tc main_v13) = rowsMat (F := F) := by
  after_results_simp
  simp only [TRef.ofBuf_toBuf]
  funext p
  obtain ⟨r, i, rfl⟩ : ∃ (r : Fin 512) (i : Fin 32), p = ix2 r i := ⟨p 0, p 1, (ix2_eta p).symm⟩
  exact congrArg (FloatOps.uitofp .bf16) (rows_word r i)

theorem host_cols : after (hostOps (F := F)) V (Proc.devRef .tc main_v22) = colsMat (F := F) := by
  after_results_simp
  simp only [TRef.ofBuf_toBuf]
  funext p
  obtain ⟨i, q, rfl⟩ : ∃ (i : Fin 32) (q : Fin 1536), p = ix2 i q := ⟨p 0, p 1, (ix2_eta p).symm⟩
  exact congrArg (FloatOps.uitofp .bf16) (cols_word i q)

theorem host_img : after (hostOps (F := F)) V (Proc.devRef .tc main_v23) = imgWords (V (Proc.devRef .tc main_arg0)) := by
  after_results_simp
  rfl

/-- The host's operations leave the arguments and the mask as they are. -/
theorem host_keeps : after (hostOps (F := F)) V (Proc.devRef .tc main_arg0) = V (Proc.devRef .tc main_arg0)
    ∧ after (hostOps (F := F)) V (Proc.devRef .tc main_arg1) = V (Proc.devRef .tc main_arg1)
    ∧ after (hostOps (F := F)) V (Proc.devRef .tc main_arg2) = V (Proc.devRef .tc main_arg2)
    ∧ after (hostOps (F := F)) V (Proc.devRef .tc main_v0) = V (Proc.devRef .tc main_v0) := by
  refine ⟨?_, ?_, ?_, ?_⟩ <;> after_results_simp

end Cert.KernelIdeal.Mask
-- ==== Proof.Region.lean ====
/- The TensorCore call of @main with its values: one run of its body on the blocks of a sample, the call entered
   from any contents of the arrays, and the array it leaves. -/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.FrameBody
public import Idealize.ShloMosaic.Lib.Pipeline.Value
public import Idealize.ShloMosaic.Lib.Pipeline.ValueKit
public import Idealize.ShloMosaic.Lib.Tactic

@[expose] public section

noncomputable section

namespace Cert.KernelIdeal.Mask

open Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body -/

set_option maxHeartbeats 1000000 in
/-- The body on whole staging buffers: the inputs' are as they were, and the output's holds the block `k1_pay1` of
    the inputs. -/
theorem body_run [∀ e, Nonempty (Elt F e)] (c : Dev nD) (E : Set ℕ) (i : grid1.Coords)
    (M0 : Memref sig .tc .vmem S1x32x32 .i32) (h0 : M0.IsWhole) (M1 : Memref sig .tc .vmem S1x512x1536 .f32) (h1 : M1.IsWhole)
    (M2 : Memref sig .tc .vmem S512x1536 .f32) (h2 : M2.IsWhole) (M3 : Memref sig .tc .vmem S512x32 .bf16) (h3 : M3.IsWhole)
    (M4 : Memref sig .tc .vmem S32x1536 .bf16) (h4 : M4.IsWhole) (M5 : Memref sig .tc .vmem S1x512x1536 .f32) (h5 : M5.IsWhole)
    (x0 : Vec F S1x32x32 .i32) (x1 : Vec F S1x512x1536 .f32) (x2 : Vec F S512x1536 .f32) (x3 : Vec F S512x32 .bf16)
    (x4 : Vec F S32x1536 .bf16) (Q : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ (∃ d, owns (c : Thread nD τ) M5 fullShare d)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4
            ∗ owns (c : Thread nD τ) M5 fullShare (k1_pay1 x0 x3 x4 x1 x2)) -∗ Q ⟨⟩))
      ⊢ wp frame (wpE (defs₀ (F := F)) Variants.none c none) E (cc1__tc_select_body i M0 h0 M1 h1 M2 h2 M3 h3 M4 h4 M5 h5) Q := by
  rw [cc1__tc_select_body_eq_skeleton]
  unfold cc1__tc_select_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  refine (View.read_writes_eq_canon _ _ _ fun y => ⟨_, List.mem_singleton_self _,
    View.mem_set_unit_zero (View.eq_zero_of_forall (by decide)) inb_S1x512x1536_S1x512x1536_0_0_0 y⟩).trans ?_
  rw [View.canon_cons_unit_lit _ _ _ (by decide)]
  simp (disch := decide) only [View.readAt_eq_ld, View.ld_unit_lit]

/-! ## The data of the call, at any contents of the arrays -/

section Dat
variable (V : (c : Dev nD) → (b : Ref sig .tc) → Buf (Elt F) ((c : Thread nD τ).loc b))

/-- The block of window `w` at point `t`. -/
abbrev inBlk (c : Dev nD) (w : Fin 6) (t : Fin cfg1.N) :=
  ((cfg1.win w).blk t).view.read (Elt F) (V c (Pipeline.arrRef spec1 w))

/-- The block the body leaves at point `t`. -/
abbrev outBlk (c : Dev nD) (t : Fin cfg1.N) : FVec F S1x512x1536 .f32 :=
  k1_pay1 (inBlk V c 0 t) (inBlk V c 3 t) (inBlk V c 4 t) (inBlk V c 1 t) (inBlk V c 2 t)

/-- What the call keeps of its arrays and staging buffers: the arrays as found, each input's block, the output block. -/
def dat (c : Dev nD) : Dat τ (Elt F) (HIx 1) ℕ UU ℕ cfg1 c where
  A w := V c (Pipeline.arrRef spec1 w)
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => outBlk V c t
  Φ _ := Pipeline.scopedRest spec1 c
  q _ := fullShare
  owed _ := 0
  recorded _ := {p | (K (F := F)).lev ((c : Thread nD τ), p.1) p.2 ≤ 8}

theorem before_0 (c : Dev nD) (t : Fin cfg1.N) (d) : (dat V c).before 0 t d = inBlk V c 0 t :=
  Dat.before_in_eq_fetched (dat V c) 0 rfl (fun _ => rfl) (fun _ _ _ => rfl) (fun _ => rfl) t d
theorem before_1 (c : Dev nD) (t : Fin cfg1.N) (d) : (dat V c).before 1 t d = inBlk V c 1 t :=
  Dat.before_in_eq_fetched (dat V c) 1 rfl (fun _ => rfl) (fun _ _ _ => rfl) (fun _ => rfl) t d
theorem before_2 (c : Dev nD) (t : Fin cfg1.N) (d) : (dat V c).before 2 t d = inBlk V c 2 t :=
  Dat.before_in_eq_fetched (dat V c) 2 rfl (fun _ => rfl) (fun _ _ _ => rfl) (fun _ => rfl) t d
theorem before_3 (c : Dev nD) (t : Fin cfg1.N) (d) : (dat V c).before 3 t d = inBlk V c 3 t :=
  Dat.before_in_eq_fetched (dat V c) 3 rfl (fun _ => rfl) (fun _ _ _ => rfl) (fun _ => rfl) t d
theorem before_4 (c : Dev nD) (t : Fin cfg1.N) (d) : (dat V c).before 4 t d = inBlk V c 4 t :=
  Dat.before_in_eq_fetched (dat V c) 4 rfl (fun _ => rfl) (fun _ _ _ => rfl) (fun _ => rfl) t d

/-- The body keeps the call's data at every point. -/
theorem body_obligation [∀ e, Nonempty (Elt F e)] (c : Dev nD) :
    BodyObligation (dat V c) (defs₀ (F := F)) 𝒱₀ (none : HIx 1) Set.univ := fun t => by
  rw [bigSep_W1, bigSep_W1]
  rw [show (dat V c).Φ t.succ = (dat V c).Φ t.castSucc from rfl,
    show (dat V c).owesAt (none : HIx 1) t.succ = (dat V c).owesAt (none : HIx 1) t.castSucc from rfl]
  simp only [before_0, before_1, before_2, before_3, before_4]
  iintro ⟨HΦ, Howes, ⟨%d0, H0⟩, ⟨%d1, H1⟩, ⟨%d2, H2⟩, ⟨%d3, H3⟩, ⟨%d4, H4⟩, ⟨%d5, H5⟩⟩
  iapply (body_run (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5))
    (inBlk V c 0 t) (inBlk V c 1 t) (inBlk V c 2 t) (inBlk V c 3 t) (inBlk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-! ## The array the call leaves -/

/-- The point that handles sample `b`. -/
def pointOf (b : Fin 64) : Fin cfg1.N := ⟨b.val, by have h : cfg1.N = 64 := N_1; omega⟩

theorem coord_val (t : Fin cfg1.N) : (grid1.coords t 0).val = t.val := by
  have hN : grid1.N = 64 := N_1
  rw [Pipeline.Grid.coords_val (G := grid1) t 0 (S := 1) (B := 64) (by decide) rfl, Nat.div_one]
  exact Nat.mod_eq_of_lt (by omega)

/-- The result's array after the call: sample `b`'s part is the block of `b`'s point. -/
def outArr (c : Dev nD) : Buf (Elt F) ((c : Thread nD τ).loc main_v24) :=
  fun p : S64x512x1536.Idx => outBlk V c (pointOf (p 0)) (ix3 0 (p 1) (p 2))

/-- The blocks a point takes of the mask, the images and the result are its sample's. -/
theorem index_0 (t : Fin cfg1.N) : win1_0.index t = ![t.val, 0, 0] := by
  have hN : cfg1.N = 64 := N_1
  have ht := t.isLt
  have h := coord_val t
  show cc1_transform_0 (grid1.coords t) = _
  unfold cc1_transform_0
  dsimp only
  rw [h, BitVec.toNat_ofNat, Nat.mod_eq_of_lt (by omega)]; rfl
theorem index_1 (t : Fin cfg1.N) : win1_1.index t = ![t.val, 0, 0] := index_0 t
theorem index_5 (t : Fin cfg1.N) : win1_5.index t = ![t.val, 0, 0] := index_0 t
theorem index_2 (t : Fin cfg1.N) : win1_2.index t = ![0, 0] := rfl
theorem index_3 (t : Fin cfg1.N) : win1_3.index t = ![0, 0] := rfl
theorem index_4 (t : Fin cfg1.N) : win1_4.index t = ![0, 0] := rfl

theorem outArr_eq (c : Dev nD) : (dat V c).arrAt 5 cfg1.N = outArr V c := by
  refine (dat V c).arrAt_eq_of_cover 5 (outArr V c) (fun t _ => ?_) fun i => ?_
  · funext y
    rw [View.read_apply]
    have e0 : (((((cfg1.win 5).blk t).view.emb y) 0 : Fin 64) : ℕ) = t.val := by
      blk_simp [index_5]
    have e1 : (((((cfg1.win 5).blk t).view.emb y) 1 : Fin 512) : ℕ) = (y 1 : ℕ) := by
      blk_simp [index_5]
    have e2 : (((((cfg1.win 5).blk t).view.emb y) 2 : Fin 1536) : ℕ) = (y 2 : ℕ) := by
      blk_simp [index_5]
    have hp : pointOf (((cfg1.win 5).blk t).view.emb y 0) = t := Fin.ext e0
    have hy : (ix3 0 (((cfg1.win 5).blk t).view.emb y 1) (((cfg1.win 5).blk t).view.emb y 2) : S1x512x1536.Idx) = y := by
      funext a
      match a with
      | ⟨0, _⟩ => exact Subsingleton.elim (α := Fin 1) _ _
      | ⟨1, _⟩ => exact Fin.ext e1
      | ⟨2, _⟩ => exact Fin.ext e2
    show outBlk V c t y = outBlk V c (pointOf (((cfg1.win 5).blk t).view.emb y 0))
      (ix3 0 (((cfg1.win 5).blk t).view.emb y 1) (((cfg1.win 5).blk t).view.emb y 2))
    rw [hp, hy]
  · have h0 : (i 0 : ℕ) < 64 := (i 0).isLt
    have h1 : (i 1 : ℕ) < 512 := (i 1).isLt
    have h2 : (i 2 : ℕ) < 1536 := (i 2).isLt
    refine ⟨pointOf (i 0), flush1_5 _, ?_⟩
    mem_blk [index_5]
    have hp : (pointOf (i 0) : ℕ) = (i 0 : ℕ) := rfl
    omega

/-! ## The call from any contents -/

abbrev adm : (p : Fin 1) → (pcfgs (F := F) p).Adm := fun p => (cfgs p).toPCfg_adm

/-- The data of the program's one TensorCore call. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

set_option backward.isDefEq.respectTransparency.types false in
/-- The call, entered with every array at `V` and left with them at `Vp`, which has the result at `outArr` and
    everything else as in `V`; `R` rides along. -/
def reg [∀ e, Nonempty (Elt F e)] (R : Dev nD → sProp 𝕄) (hout' : ∀ c, Vp c main_v24 = outArr V c)
    (hne : ∀ c (b : Ref sig .tc), b ≠ main_v24 → Vp c b = V c b) :
    Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c
    ∗ ∃ W, ⌜(K (F := F)).WBelow (c : Thread nD τ) W 8⌝ ∗ owes (c : Thread nD τ) (0 : CellTallies nD τ sig (HIx 1)) W)
  post c := iprop(unscopedBufs c (Vp c) ∗ R c
    ∗ ∃ W, ⌜(K (F := F)).WBelow (c : Thread nD τ) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v0 (by decide)).symm
        · exact ((pdats V 0 c).arrAt_in 1 rfl _).trans (hne c main_v23 (by decide)).symm
        · exact ((pdats V 0 c).arrAt_in 2 rfl _).trans (hne c main_v4 (by decide)).symm
        · exact ((pdats V 0 c).arrAt_in 3 rfl _).trans (hne c main_v13 (by decide)).symm
        · exact ((pdats V 0 c).arrAt_in 4 rfl _).trans (hne c main_v22 (by decide)).symm
        · exact (outArr_eq V c).trans (hout' c).symm)
      (fun b hb => hne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Dat

end Cert.KernelIdeal.Mask

end
-- ==== Proof.Main.lean ====
/- The kernel's program from its start to its end: the SparseCore call, the host's operations, the block pipeline
   and the last reshape, with the contents of every array along the way. -/
module

public import proofs.«01_k».proof.Proof.Tile
public import proofs.«01_k».proof.Proof.Rows
public import proofs.«01_k».proof.Proof.HostValue
public import proofs.«01_k».proof.Proof.Region

@[expose] public section

noncomputable section

namespace Cert.KernelIdeal.Mask

open Cert.KernelIdeal.Gen
open Idealize.ShloMosaic Idealize.ShloMosaic.TcCoe
open Idealize.ShloMosaic.StableHlo (after seq held)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The launch element of the ghost state -/

/-- The handshakes' rounds, the block pipeline's rounds, and no counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The block pipeline's ghost state on device `d`. -/
def G (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UR) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

variable (m : (ℓ : Loc nD τ sig) → Buf (Elt F) ℓ) (ρ : Dev nD → PrngReg)

theorem none_held (thr : Thread nD τ) : (bigSep Finset.univ fun q : Fin 1 => (P (F := F) m).x q thr) = iprop(emp) :=
  bigSep_univ_of_subsingleton (0 : Fin 1)

theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  · simp only [none_held]
    rw [all_emp]; iempintro

/-! ## The arrays of the TensorCore, and their contents along the program -/

/-- The arrays @main's host operations and the calls use. -/
abbrev ucRefs : Finset (DevRef τ sig) := Pipeline.ucRefs τ sig

theorem unscoped_held (d : Dev nD) (W : Valuation τ sig (Elt F)) :
    (unscopedBufs d (fun b => W (Proc.devRef .tc b)) : sProp 𝕄) = held (SparseCore.T d) ucRefs W := Pipeline.unscopedBufs_held d W

theorem unscoped_of_held (d : Dev nD) (W : Valuation τ sig (Elt F)) :
    (held (d.tc : Thread nD τ) ucRefs W : sProp 𝕄) ⊢ unscopedBufs d (fun b => W (Proc.devRef .tc b)) := Entails.of_eq (unscoped_held d W).symm

/-- At the start; after the SparseCore call; after the host's operations; after the block pipeline; at the end. -/
def V0 (d : Dev nD) : Valuation τ sig (Elt F) := fun b => m (d, b)
def V1 (d : Dev nD) : Valuation τ sig (Elt F) := Function.update (V0 m d) (Proc.devRef .tc main_v0) (maskBuf m d)
def V2 (d : Dev nD) : Valuation τ sig (Elt F) := after (hostOps (F := F)) (V1 m d)
def Vr (c : Dev nD) (b : Ref sig .tc) : Buf (Elt F) ((c : Thread nD τ).loc b) := V2 m c (Proc.devRef .tc b)
def V3 (d : Dev nD) : Valuation τ sig (Elt F) := Function.update (V2 m d) (Proc.devRef .tc main_v24) (outArr (Vr m) d)
def V4 (d : Dev nD) : Valuation τ sig (Elt F) := after [tailOp (F := F)] (V3 m d)
def Vs (c : Dev nD) (b : Ref sig .tc) : Buf (Elt F) ((c : Thread nD τ).loc b) := V3 m c (Proc.devRef .tc b)

theorem Vs_out (c : Dev nD) : Vs m c main_v24 = outArr (Vr m) c := by unfold Vs V3; exact Function.update_self _ _ _
theorem Vs_ne (c : Dev nD) (b : Ref sig .tc) (h : b ≠ main_v24) : Vs m c b = Vr m c b :=
  Function.update_of_ne (fun e => h (Proc.devRef_injective _ e)) _ _

theorem hostOps_sub : (hostOps (F := F)).Forall fun op => op.bufs ⊆ StableHlo.tcRefs τ sig :=
  ⟨StableHlo.reshape_bufs_sub .., StableHlo.reshape_bufs_sub .., StableHlo.unary_bufs_sub .., StableHlo.reshape_bufs_sub ..,
    StableHlo.nullary_bufs_sub .., StableHlo.unary_bufs_sub .., StableHlo.nullary_bufs_sub .., StableHlo.unary_bufs_sub ..,
    StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.binary_bufs_sub ..,
    StableHlo.nullary_bufs_sub .., StableHlo.unary_bufs_sub .., StableHlo.binary_bufs_sub .., StableHlo.binary_bufs_sub ..,
    StableHlo.nullary_bufs_sub .., StableHlo.unary_bufs_sub .., StableHlo.binary_bufs_sub .., StableHlo.ternary_bufs_sub ..,
    StableHlo.nullary_bufs_sub .., StableHlo.unary_bufs_sub .., StableHlo.unary_bufs_sub .., StableHlo.unary_bufs_sub ..,
    StableHlo.binary_bufs_sub .., StableHlo.unary_bufs_sub .., StableHlo.nullary_bufs_sub .., StableHlo.unary_bufs_sub ..,
    StableHlo.nullary_bufs_sub .., StableHlo.unary_bufs_sub .., StableHlo.unary_bufs_sub .., StableHlo.binary_bufs_sub ..,
    StableHlo.unary_bufs_sub .., StableHlo.unary_bufs_sub .., StableHlo.unary_bufs_sub .., StableHlo.binary_bufs_sub ..,
    StableHlo.unary_bufs_sub .., StableHlo.binary_bufs_sub .., StableHlo.nullary_bufs_sub .., StableHlo.unary_bufs_sub ..,
    StableHlo.binary_bufs_sub .., StableHlo.binary_bufs_sub .., StableHlo.nullary_bufs_sub .., StableHlo.unary_bufs_sub ..,
    StableHlo.binary_bufs_sub .., StableHlo.ternary_bufs_sub .., StableHlo.nullary_bufs_sub .., StableHlo.unary_bufs_sub ..,
    StableHlo.unary_bufs_sub .., StableHlo.unary_bufs_sub .., StableHlo.binary_bufs_sub .., StableHlo.unary_bufs_sub ..,
    StableHlo.reshape_bufs_sub ..⟩
theorem hostOps_bufs : ∀ op ∈ hostOps (F := F), op.bufs ⊆ ucRefs := fun op h =>
  Pipeline.sub_ucRefs op (List.forall_iff_forall_mem.mp hostOps_sub op h)
theorem tailOp_bufs : ∀ op ∈ [tailOp (F := F)], op.bufs ⊆ ucRefs := by
  intro op h
  rcases List.mem_cons.mp h with rfl | h
  · exact Pipeline.sub_ucRefs _ (StableHlo.reshape_bufs_sub ..)
  nomatch h
theorem tailOp_fresh : ∀ op ∈ [tailOp (F := F)], op.fresh = ∅ := by
  intro op h
  rcases List.mem_cons.mp h with rfl | h; · rfl
  nomatch h

/-- The index array and the mask taken out of the held arrays. -/
abbrev a' : DevRef τ sig := Proc.devRef .tc (main_arg2 : Ref sig .tc)
abbrev o' : DevRef τ sig := Proc.devRef .tc (main_v0 : Ref sig .tc)
abbrev callRefs : Finset (DevRef τ sig) := {a', o'}

theorem callRefs_sub : callRefs ⊆ ucRefs := by decide +kernel

theorem held_call (d : Dev nD) (W : Valuation τ sig (Elt F)) :
    (held (SparseCore.T d) callRefs W : sProp 𝕄) = iprop((aLoc d ↦{fullShare} W a') ∗ (oLoc d ↦{fullShare} W o')) := by
  unfold held
  rw [SparseCore.bigSep_insert' (by decide), bigSep_singleton]

theorem held_start (d : Dev nD) :
    (held (SparseCore.T d) ucRefs (V0 m d) : sProp 𝕄) = iprop(((aLoc d ↦{fullShare} m (aLoc d)) ∗ (oLoc d ↦{fullShare} m (oLoc d))) ∗ held (SparseCore.T d) (ucRefs \ callRefs) (V0 m d)) := by
  rw [StableHlo.held_sub_split (SparseCore.T d) callRefs_sub, held_call]; rfl

theorem held_called (d : Dev nD) :
    (held (SparseCore.T d) ucRefs (V1 m d) : sProp 𝕄) = iprop(((aLoc d ↦{fullShare} m (aLoc d)) ∗ (oLoc d ↦{fullShare} maskBuf m d)) ∗ held (SparseCore.T d) (ucRefs \ callRefs) (V0 m d)) := by
  rw [StableHlo.held_sub_split (SparseCore.T d) callRefs_sub, held_call,
    StableHlo.held_congr (V := V1 m d) (V' := V0 m d) (SparseCore.T d) fun b hb => Function.update_of_ne
      (fun e => (Finset.mem_sdiff.mp hb).2 (e ▸ Finset.mem_insert_of_mem (Finset.mem_singleton_self _))) _ _,
    show V1 m d o' = maskBuf m d from Function.update_self _ _ _,
    show V1 m d a' = m (aLoc d) from Function.update_of_ne (show a' ≠ o' by decide) _ _]

/-! ## What the program leaves -/

abbrev rLoc (d : Dev nD) : Loc nD τ sig := (SparseCore.T d).loc main_v25
abbrev xLoc (d : Dev nD) : Loc nD τ sig := (SparseCore.T d).loc main_arg0
abbrev tLoc (d : Dev nD) : Loc nD τ sig := (SparseCore.T d).loc main_arg1

/-- The result's contents at the end. -/
def outOf (d : Dev nD) : Buf (Elt F) (rLoc d) := V4 m d (Proc.devRef .tc main_v25)

abbrev r' : DevRef τ sig := Proc.devRef .tc (main_v25 : Ref sig .tc)
abbrev x' : DevRef τ sig := Proc.devRef .tc (main_arg0 : Ref sig .tc)
abbrev t' : DevRef τ sig := Proc.devRef .tc (main_arg1 : Ref sig .tc)
abbrev endRefs : Finset (DevRef τ sig) := {r', x', t', a'}

theorem endRefs_sub : endRefs ⊆ ucRefs := by decide +kernel

abbrev FIN (d : Dev nD) : sProp 𝕄 := iprop((rLoc d ↦{fullShare} outOf m d) ∗ (xLoc d ↦{fullShare} m (xLoc d))
  ∗ (tLoc d ↦{fullShare} m (tLoc d)) ∗ (aLoc d ↦{fullShare} m (aLoc d)))

theorem V4_keeps (d : Dev nD) (b : Ref sig .tc) (h25 : b ≠ main_v25) (h24 : b ≠ main_v24) (h0 : b ≠ main_v0)
    (hk : ∀ V : Valuation τ sig (Elt F), after (hostOps (F := F)) V (Proc.devRef .tc b) = V (Proc.devRef .tc b)) :
    V4 m d (Proc.devRef .tc b) = m ((SparseCore.T d).loc b) := by
  have e4 : V4 m d (Proc.devRef .tc b) = V3 m d (Proc.devRef .tc b) :=
    (tailOp (F := F)).result_of_not_mem _ (show Proc.devRef .tc b ∉ ({r'} : Finset (DevRef τ sig)) from
      fun h => h25 (Proc.devRef_injective _ (Finset.mem_singleton.mp h)))
  have e1 : V1 m d (Proc.devRef .tc b) = V0 m d (Proc.devRef .tc b) := Function.update_of_ne (fun e => h0 (Proc.devRef_injective _ e)) _ _
  rw [e4]
  exact (Vs_ne m d b h24).trans ((hk _).trans e1)

theorem held_fin (d : Dev nD) : (held (SparseCore.T d) endRefs (V4 m d) : sProp 𝕄) = FIN m d := by
  unfold held
  rw [SparseCore.bigSep_insert' (by decide), SparseCore.bigSep_insert' (by decide), SparseCore.bigSep_insert' (by decide), bigSep_singleton,
    V4_keeps m d main_arg0 (by decide) (by decide) (by decide) fun V => (host_keeps V).1,
    V4_keeps m d main_arg1 (by decide) (by decide) (by decide) fun V => (host_keeps V).2.1,
    V4_keeps m d main_arg2 (by decide) (by decide) (by decide) fun V => (host_keeps V).2.2.1]
  rfl

theorem held_end (d : Dev nD) : (held (SparseCore.T d) ucRefs (V4 m d) : sProp 𝕄) ⊢ FIN m d := by
  rw [StableHlo.held_sub_split (SparseCore.T d) endRefs_sub, held_fin]
  exact sep_elim_left

/-! ## @main on the TensorCore -/

theorem st0_eq (d : Dev nD) : (bigSep Finset.univ fun c : Fin ((K (F := F)).nCore 0) => (P m).st 0 d c)
    = iprop((aLoc d ↦{fullShare} m (aLoc d)) ∗ (oLoc d ↦{fullShare} m (oLoc d))) := tiles_eq m d (m (oLoc d))
theorem dn0_eq (d : Dev nD) : (bigSep Finset.univ fun c : Fin ((K (F := F)).nCore 0) => (P m).dn 0 d c)
    = iprop((aLoc d ↦{fullShare} m (aLoc d)) ∗ (oLoc d ↦{fullShare} maskBuf m d)) := tiles_eq m d (maskBuf m d)

/-- The block pipeline's region, between the contents before it and after it. -/
abbrev seg [∀ e, Nonempty (Elt F e)] := reg (F := F) (Vr m) (Vs m) (fun _ => iprop(emp)) (Vs_out m) (Vs_ne m)

/-- What the region starts from and leaves: the arrays, and what the TensorCore owes. -/
theorem seg_pre [∀ e, Nonempty (Elt F e)] (d : Dev nD) :
    iprop(unscopedBufs d (fun b => V2 m d (Proc.devRef .tc b)) ∗ emp ∗ ∃ W, ⌜(K (F := F)).WBelow (SparseCore.T d) W 8⌝
      ∗ owes (SparseCore.T d) (0 : CellTallies nD τ sig (HIx 1)) W) ⊢ ((seg m).pre d : sProp 𝕄) := BI.Entails.refl _
theorem seg_post [∀ e, Nonempty (Elt F e)] (d : Dev nD) :
    ((seg m).post d : sProp 𝕄) ⊢ iprop(unscopedBufs d (fun b => V3 m d (Proc.devRef .tc b)) ∗ emp ∗ ∃ W, ⌜(K (F := F)).WBelow (SparseCore.T d) W 8⌝
      ∗ owes (SparseCore.T d) (0 : CellTallies nD τ sig (HIx 1)) W) := BI.Entails.refl _

/-- The pipeline's call in the SparseCore program's labels, and in the pipeline's own. -/
theorem call_eq : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl

/-- The block pipeline's statement of @main. -/
theorem wp_pipeline [∀ e, Nonempty (Elt F e)] (d : Dev nD) (Φ : PUnit → sProp 𝕄) :
    iprop(((boundary (SparseCore.T d) ∗ (seg m).post d) -∗ Φ ⟨⟩) ∗ boundary (SparseCore.T d) ∗ (seg m).pre d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  rw [call_eq]
  refine BI.Entails.trans ?_ ((K (F := F)).wp_liftProg (D (F := F)) 𝒱 (SparseCore.T d) Set.univ none _ Φ)
  refine BI.Entails.trans ?_ (Pipeline.RegionSeg.wp (pcfgs (F := F)) adm (pdats (Vr m)) (none : HIx 1) cellOf_inj EP defs₀ 𝒱₀
    (K (F := F)).L (K (F := F)).lev (seg m) d none (fun u h => nomatch h) .ret Φ)
  have hk : iprop((boundary (SparseCore.T d) ∗ (seg m).post d) -∗ Φ ⟨⟩)
      ⊢ iprop((boundary (d.tc : Thread nD τ) ∗ (seg m).post d) -∗ wp frame (wpE (Pipeline.defs (pcfgs (F := F)) defs₀) 𝒱₀.lift (d.tc : Thread nD τ) none) Set.univ (.ret ⟨⟩) Φ) := by
    iintro Hk H
    rw [wp_ret]; imodintro
    iapply Hk; iexact H
  exact sep_mono_left hk

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind, show (unscopedBufs d fun b => m ((SparseCore.T d).loc b) : sProp 𝕄) = held (SparseCore.T d) ucRefs (V0 m d) from unscoped_held d (V0 m d), held_start]
  iintro ⟨#Hctx, Hst, ⟨Hb, ⟨⟨Ha, Ho⟩, Hrest⟩, Hts, -⟩, HG⟩
  iapply ((K (F := F)).wp_run (D (F := F)) 𝒱 (EH := EH) (P := P m) κ d 0) $$ [Hst Ha Ho Hb Hrest Hts HG]
  isplitr; · iexact Hctx
  isplitl [Hst]; · iexact Hst
  isplitl [Ha Ho]
  · rw [st0_eq]; isplitl [Ha] <;> iassumption
  iintro ⟨Hst, Hdn⟩
  ihave Hdn' := (Entails.of_eq (dn0_eq m d)) $$ Hdn
  ihave Hheld := (Entails.of_eq (held_called m d).symm) $$ [Hdn' Hrest]
  · isplitl [Hdn'] <;> iassumption
  -- the host's operations
  iapply (StableHlo.wp_seq (defs := (K (F := F)).defs (D (F := F))) 𝒱 none Set.univ d ucRefs _ (hostOps (F := F)) hostOps_bufs hostOps_fresh (V1 m d)) $$ [Hb Hheld]
  · isplitl [Hb] <;> iassumption
  iintro ⟨Hb, Hheld⟩
  ihave Hub := (unscoped_of_held d (after (hostOps (F := F)) (V1 m d))) $$ Hheld
  -- the block pipeline
  rw [wp_bind]
  ihave Hlev := ((K (F := F)).ctx_levAts κ) $$ Hctx
  unfold SparseCore.Cfg.tcSt
  icases Hst with ⟨HO, Hst⟩
  iapply (wp_pipeline m d)
  isplitr [Hb Hub HO Hlev HG]
  rotate_left
  · isplitl [Hb]; · iexact Hb
    isplitl [Hub HO]
    · iapply (seg_pre m d)
      isplitl [Hub]; · iexact Hub
      isplitr; · iempintro
      rw [← (K (F := F)).Otc_end d (le_refl 1)]
      iexact HO
    isplitl [Hlev] <;> iassumption
  iintro ⟨Hb, Hp⟩
  ihave Hp' := (seg_post m d) $$ Hp
  icases Hp' with ⟨Hub, -, HO⟩
  ihave Hheld := (Entails.of_eq (unscoped_held d (V3 m d))) $$ Hub
  iapply (StableHlo.wp_seq (defs := (K (F := F)).defs (D (F := F))) 𝒱 none Set.univ d ucRefs _ [tailOp (F := F)] tailOp_bufs tailOp_fresh (V3 m d)) $$ [Hb Hheld]
  · isplitl [Hb] <;> iassumption
  iintro ⟨Hb, Hheld⟩
  rw [wp_pure]
  imodintro
  isplitl [HO Hst]
  · isplitl [HO]
    · rw [(K (F := F)).Otc_end d (le_refl 1)]; iexact HO
    iexact Hst
  isplitl [Hheld]; · iapply (held_end m d); iexact Hheld
  isplitl [Hb] <;> iassumption

/-! ## The program's run -/

/-- What is read of device `d`'s final state. -/
def fq (d : Dev nD) (s' : Phys nD τ sig (Elt F)) : Prop :=
  s'.mem.mem (rLoc d) = outOf m d ∧ s'.mem.mem (xLoc d) = m (xLoc d) ∧ s'.mem.mem (tLoc d) = m (tLoc d) ∧ s'.mem.mem (aLoc d) = m (aLoc d)

theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr; · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  iintro ⟨⟨Hr, Hx, Ht, Ha⟩, HSI⟩
  ihave H := (read_whole s' (rLoc d) _) $$ [Hr HSI]; · isplitl [Hr] <;> iassumption
  icases H with ⟨%hr, HSI⟩
  ihave H := (read_whole s' (xLoc d) _) $$ [Hx HSI]; · isplitl [Hx] <;> iassumption
  icases H with ⟨%hx, HSI⟩
  ihave H := (read_whole s' (tLoc d) _) $$ [Ht HSI]; · isplitl [Ht] <;> iassumption
  icases H with ⟨%ht, HSI⟩
  ihave H := (read_whole s' (aLoc d) _) $$ [Ha HSI]; · isplitl [Ha] <;> iassumption
  icases H with ⟨%ha, -⟩
  ipureintro; exact ⟨hr, hx, ht, ha⟩

/-- The result at its value, the arguments as they were, every semaphore at zero. -/
def QC : PUnit × MemSt nD τ sig (Elt F) → Prop := fun r => (∀ c : Dev nD, r.2.mem (rLoc c) = outOf m c
  ∧ r.2.mem (xLoc c) = m (xLoc c) ∧ r.2.mem (tLoc c) = m (tLoc c) ∧ r.2.mem (aLoc c) = m (aLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.KernelIdeal.Mask

end
-- ==== Proof.Perm.lean ====
/- What the precondition says: each row of the index array is a permutation of the 1024 patches. -/
module

public import proofs.«01_k».proof.Proof.Gen.Pre_permutations
public import proofs.«01_k».proof.Pre_permutations
public import Idealize.ShloMosaic.Lib.SortFacts
public import Idealize.ShloMosaic.Lib.ReduceAll
public import Idealize.ShloMosaic.Lib.Pointwise
public import Idealize.ShloMosaic.Lib.Affine

@[expose] public section

noncomputable section

namespace Cert.Permutations

open Cert.Pre_permutations Cert.Pre_permutations.Gen
open Idealize.ShloMosaic

variable {F : FTy → Type} [FloatOps F]

/-- An entry of a sorted row is an entry of the row, at the place the sort takes it from. -/
theorem sort_row (cmp : BitVec 32 → BitVec 32 → BitVec 1) (a : IVec S64x1024 32) (b : Fin 64) (k : Fin 1024) :
    Host.sort S64x1024 1 cmp a (ix2 b k) = a (ix2 b (sortedFrom (fun m m' => cmp (a (ix2 b m)) (a (ix2 b m')) == 1#1) k)) := by
  have hal : ∀ n : Fin 1024, (ix2 b k : S64x1024.Idx).along 1 n = ix2 b n := fun n => by
    funext i
    match i with
    | ⟨0, _⟩ => rfl
    | ⟨1, _⟩ => exact Function.update_self _ _ _
  have e : Host.sort S64x1024 1 cmp a (ix2 b k) = a ((ix2 b k : S64x1024.Idx).along 1
      (sortedFrom (fun m m' => cmp (a ((ix2 b k : S64x1024.Idx).along 1 m)) (a ((ix2 b k : S64x1024.Idx).along 1 m')) == 1#1) k)) := by
    unfold Host.sort; exact dif_pos _
  have hf : (fun m m' : Fin 1024 => cmp (a ((ix2 b k : S64x1024.Idx).along 1 m)) (a ((ix2 b k : S64x1024.Idx).along 1 m')) == 1#1)
      = fun m m' => cmp (a (ix2 b m)) (a (ix2 b m')) == 1#1 := by
    funext m m'
    rw [hal m, hal m']
  exact e.trans ((congrArg a (hal _)).trans (congrArg (fun f => a (ix2 b (sortedFrom f k))) hf))

/-- A row sorted to `0, 1, …, 1023` holds each of them once: entry `n` is the word of `e n`. -/
theorem perm_of_sorted (cmp : BitVec 32 → BitVec 32 → BitVec 1) (a : IVec S64x1024 32) (b : Fin 64)
    (h : ∀ k : Fin 1024, Host.sort S64x1024 1 cmp a (ix2 b k) = BitVec.ofNat 32 k.val) :
    ∃ e : Fin 1024 ≃ Fin 1024, ∀ n : Fin 1024, (a (ix2 b n)).toNat = (e n).val := by
  obtain ⟨σ, hb, hσ⟩ : ∃ σ : Fin 1024 → Fin 1024, Function.Bijective σ ∧ ∀ k : Fin 1024, a (ix2 b (σ k)) = BitVec.ofNat 32 k.val :=
    ⟨_, ⟨sortedFrom_injective _, sortedFrom_surjective _⟩, fun k => (sort_row cmp a b k).symm.trans (h k)⟩
  refine ⟨(Equiv.ofBijective σ hb).symm, fun n => ?_⟩
  have h1 := hσ ((Equiv.ofBijective σ hb).symm n)
  rw [Equiv.ofBijective_apply_symm_apply σ hb] at h1
  rw [h1, BitVec.toNat_ofNat]
  have := ((Equiv.ofBijective σ hb).symm n).isLt
  omega

/-- The precondition, row by row. -/
theorem perm_of_pre (x : FVec F S64x512x512x3 .f32) (t : FVec F S1x1x768 .f32) (a : IVec S64x1024 32)
    (h : fn (F := F) x t a = fun _ => 1#1) (b : Fin 64) :
    ∃ e : Fin 1024 ≃ Fin 1024, ∀ n : Fin 1024, (a (ix2 b n)).toNat = (e n).val := by
  refine perm_of_sorted comparator_i32_d1 a b fun k => ?_
  have h0 := congrFun h ix0
  dsimp only [fn, fn_sort] at h0
  have h1 := Host.reduce_andi_all _ _ _ _ _ h0 (ix2 b k)
  have h2 := IntOp.cmpi_eq.mp h1
  exact h2

end Cert.Permutations

end
-- ==== Proof.Frames.lean ====
/- The frames: each program ends with its arguments as they were and every semaphore at zero. The kernel as printed
   and the kernel idealized are one text, so the run is written once, for any reading of the floats. -/
module

public import proofs.«01_k».proof.Defs
public import proofs.«01_k».proof.Proof.Gen.Kernel
public import proofs.«01_k».proof.Proof.Main
public import proofs.«01_k».proof.Proof.Perm
public import proofs.«01_k».proof.Proof.Gen.ReferenceIdeal.Run

@[expose] public section

noncomputable section

namespace Cert.Frames

open Idealize.ShloMosaic Idealize.SL.Sem

/-- Under the precondition the indices name places of the mask. -/
theorem preOK {F : FTy → Type} [FloatOps F]
    (m : (ℓ : Loc Cert.KernelIdeal.nD Cert.KernelIdeal.τ Cert.KernelIdeal.sig) → Buf (Elt F) ℓ)
    (h : ∀ c : Dev Cert.KernelIdeal.nD, Cert.Pre_permutations.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1) :
    Cert.KernelIdeal.Mask.PreOK m := by
  intro d p
  obtain ⟨e, he⟩ := Cert.Permutations.perm_of_pre _ _ _ (h d) (p 0)
  have h1 := he (p 1)
  have h2 : ix2 (p 0) (p 1) = p := ix2_eta p
  exact lt_of_eq_of_lt ((congrArg (fun q => (show BitVec 32 from m (Cert.KernelIdeal.Mask.aLoc d) q).toNat) h2.symm).trans h1) (e (p 1)).isLt

/-! The kernel as printed is the text of the idealized one: the same bodies, the same @main. -/

theorem bodies_eq : Cert.Kernel.defs₀ (F := Bits) = Cert.KernelIdeal.defs₀ (F := Bits) := by
  funext p ℓ a
  match p, ℓ, a with
  | .tc, 0, _ => rfl
  | .tc, 1, _ => rfl
  | .scScalar _, 0, _ => rfl
  | .scScalar _, 1, _ => rfl
  | .scVector _ _, 0, _ => rfl
  | .scVector _ _, 1, _ => rfl

theorem defs_eq : Cert.Kernel.defs (F := Bits) = Cert.KernelIdeal.defs (F := Bits) :=
  congrArg (fun d => (Cert.KernelIdeal.sc (F := Bits)).defs (Pipeline.defs Cert.KernelIdeal.pcfgs d)) bodies_eq

set_option maxHeartbeats 2000000 in
theorem main_eq : Cert.Kernel.main (F := Bits) = Cert.KernelIdeal.main (F := Bits) := rfl

theorem threads_eq : Cert.Kernel.threads (F := Bits) = Cert.KernelIdeal.threads (F := Bits) :=
  congrArg (fun p => (Cert.KernelIdeal.sc (F := Bits)).threads p) main_eq

theorem run_eq : θ_run (Cert.Kernel.defs (F := Bits)) (Cert.Kernel.threads (F := Bits))
    = θ_run (Cert.KernelIdeal.defs (F := Bits)) (Cert.KernelIdeal.threads (F := Bits)) :=
  congrArg₂ (fun d t => θ_run d t) defs_eq threads_eq

theorem frame_kernel : Cert.quiescent_Kernel := fun m ρ h => by
  rw [run_eq]
  exact (θ_run (Cert.KernelIdeal.defs (F := Bits)) _ _).mono (fun r (h : Cert.KernelIdeal.Mask.QC (F := Bits) m r) => ⟨fun c => (h.1 c).2, h.2⟩)
    (Cert.KernelIdeal.Mask.run_main (F := Bits) m ρ (preOK m h))

theorem frame_kernelIdeal : Cert.quiescent_KernelIdeal := fun m ρ h =>
  (θ_run (Cert.KernelIdeal.defs (F := Ideal)) _ _).mono (fun _ h => ⟨fun c => (h.1 c).2, h.2⟩) (Cert.KernelIdeal.Mask.run_main (F := Ideal) m ρ (preOK m h))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which the reference does not need. -/
theorem frame_reference_pre : Cert.quiescent_ReferenceIdeal_pre_permutations := fun m ρ _ => frame_reference m ρ trivial

end Cert.Frames

end
-- ==== Proof.KernelValue.lean ====
/- The kernel's result read at an index, over the extended reals. -/
module

public import proofs.«01_k».proof.Proof.Main
public import Idealize.ShloMosaic.Lib.Pointwise
public import Idealize.ShloMosaic.Lib.IdealHost

@[expose] public section

noncomputable section

namespace Cert.KernelIdeal.Mask

open Cert.KernelIdeal.Gen
open Idealize.ShloMosaic Idealize.ShloMosaic.TcCoe
open Idealize.ShloMosaic.StableHlo (after)
open Idealize.SL.Sem

/-! ## One block -/

theorem ofBits_half : Ideal.ofBits .f32 0x3F000000#32 = ((1 / 2 : ℝ) : EReal) := by
  simp [Ideal.ofBits, Ideal.ieee, -EReal.coe_mul]; norm_num

theorem bit_toNat (p : Prop) [Decidable p] : (((((if p then 1#1 else 0#1 : BitVec 1)).toNat : ℝ)) : EReal) = if p then 1 else 0 := by
  split <;> simp

/-- A sum over a row of a 0/1 matrix with one 1 picks its term. -/
theorem sum_pick {n : ℕ} (i : Fin n) (f : Fin n → EReal) : (∑ k : Fin n, (if i.val = k.val then (1 : EReal) else 0) * f k) = f i := by
  rw [Finset.sum_eq_single i (fun k _ hk => by rw [if_neg fun e => hk (Fin.ext e.symm), zero_mul]) (fun h => absurd (Finset.mem_univ i) h), if_pos rfl, one_mul]

/-- A 0/1 word as a real is above one half exactly when it is one. -/
theorem half_lt_word {v : BitVec 32} (hv : v = 0#32 ∨ v = 1#32) : (((1 / 2 : ℝ) : EReal) < ((v.toInt : ℝ) : EReal)) ↔ v = 1#32 := by
  rw [EReal.coe_lt_coe_iff]
  rcases hv with rfl | rfl
  · norm_num
  · norm_num

/-- The body's block at a word: the image's where the mask of the word's patch is one, else the token's. -/
theorem pay_at (v0 : Vec Ideal S1x32x32 .i32) (h0 : ∀ i, v0 i = 0#32 ∨ v0 i = 1#32) (x : Vec Ideal S1x512x1536 .f32) (t : Vec Ideal S512x1536 .f32)
    (r : Fin 512) (q : Fin 1536) :
    k1_pay1 (F := Ideal) v0 (rowsMat (F := Ideal)) (colsMat (F := Ideal)) x t (ix3 0 r q)
      = if v0 (ix3 0 (⟨r.val / 16, by omega⟩ : Fin 32) (⟨q.val / 48, by omega⟩ : Fin 32)) = 1#32 then x (ix3 0 r q) else t (ix2 r q) := by
  unfold k1_pay1
  simp only [pointwise, rowsMat, colsMat]
  have hu : ∀ (p : Prop) [Decidable p], (FloatOps.uitofp .bf16 (if p then 1#1 else 0#1) : Ideal .bf16) = if p then (1 : EReal) else 0 := fun p _ => bit_toNat p
  have hrow : ∀ k : Fin 32, (0 + ∑ j : Fin 32, (FloatOps.uitofp .bf16 (if r.val / 16 = j.val then 1#1 else 0#1) : Ideal .bf16)
      * (FloatOps.sitofp .bf16 (v0 (ix3 0 j k)) : Ideal .bf16) : EReal) = (((v0 (ix3 0 (⟨r.val / 16, by omega⟩ : Fin 32) k)).toInt : ℝ) : EReal) := fun k => by
    simp only [hu]
    exact (zero_add _).trans (sum_pick (⟨r.val / 16, by omega⟩ : Fin 32) fun j => (((v0 (ix3 0 j k)).toInt : ℝ) : EReal))
  have hall : (0 + ∑ k : Fin 32, (0 + ∑ j : Fin 32, (FloatOps.uitofp .bf16 (if r.val / 16 = j.val then 1#1 else 0#1) : Ideal .bf16)
      * (FloatOps.sitofp .bf16 (v0 (ix3 0 j k)) : Ideal .bf16)) * (FloatOps.uitofp .bf16 (if q.val / 48 = k.val then 1#1 else 0#1) : Ideal .bf16) : EReal)
      = (((v0 (ix3 0 (⟨r.val / 16, by omega⟩ : Fin 32) (⟨q.val / 48, by omega⟩ : Fin 32))).toInt : ℝ) : EReal) := by
    refine (zero_add _).trans (Eq.trans (Finset.sum_congr rfl fun k _ => ?_)
      (sum_pick (⟨q.val / 48, by omega⟩ : Fin 32) fun k => (((v0 (ix3 0 (⟨r.val / 16, by omega⟩ : Fin 32) k)).toInt : ℝ) : EReal)))
    rw [hrow k, hu, mul_comm]
  refine ite_congr (propext ?_) (fun _ => rfl) (fun _ => rfl)
  refine Iff.trans (iff_of_eq (congrArg₂ (fun u v : EReal => u < v) ofBits_half hall)) ?_
  exact half_lt_word (h0 _)

/-! ## The blocks a point takes -/

section Blocks
variable {F : FTy → Type} [FloatOps F]
variable (V : (c : Dev nD) → (b : Ref sig .tc) → Buf (Elt F) ((c : Thread nD τ).loc b)) (c : Dev nD) (b : Fin 64)

theorem blk_mask (y : S1x32x32.Idx) : (inBlk V c 0 (pointOf b) : Vec F S1x32x32 .i32) y = (V c main_v0 : S64x32x32.Idx → BitVec 32) (ix3 b (y 1) (y 2)) := by
  show (V c main_v0 : S64x32x32.Idx → BitVec 32) (((cfg1.win 0).blk (pointOf b)).view.emb y) = _
  refine congrArg (V c main_v0 : S64x32x32.Idx → BitVec 32) (funext fun a => Fin.ext ?_)
  match a with
  | ⟨0, _⟩ => show (((((cfg1.win 0).blk (pointOf b)).view.emb y) 0 : Fin 64) : ℕ) = b.val; blk_simp [index_0]; rfl
  | ⟨1, _⟩ => show (((((cfg1.win 0).blk (pointOf b)).view.emb y) 1 : Fin 32) : ℕ) = (y 1 : ℕ); blk_simp [index_0]
  | ⟨2, _⟩ => show (((((cfg1.win 0).blk (pointOf b)).view.emb y) 2 : Fin 32) : ℕ) = (y 2 : ℕ); blk_simp [index_0]

theorem blk_img (y : S1x512x1536.Idx) : (inBlk V c 1 (pointOf b) : Vec F S1x512x1536 .f32) y = (V c main_v23 : S64x512x1536.Idx → F .f32) (ix3 b (y 1) (y 2)) := by
  show (V c main_v23 : S64x512x1536.Idx → F .f32) (((cfg1.win 1).blk (pointOf b)).view.emb y) = _
  refine congrArg (V c main_v23 : S64x512x1536.Idx → F .f32) (funext fun a => Fin.ext ?_)
  match a with
  | ⟨0, _⟩ => show (((((cfg1.win 1).blk (pointOf b)).view.emb y) 0 : Fin 64) : ℕ) = b.val; blk_simp [index_1]; rfl
  | ⟨1, _⟩ => show (((((cfg1.win 1).blk (pointOf b)).view.emb y) 1 : Fin 512) : ℕ) = (y 1 : ℕ); blk_simp [index_1]
  | ⟨2, _⟩ => show (((((cfg1.win 1).blk (pointOf b)).view.emb y) 2 : Fin 1536) : ℕ) = (y 2 : ℕ); blk_simp [index_1]

theorem blk_tok : (inBlk V c 2 (pointOf b) : Vec F S512x1536 .f32) = (V c main_v4 : S512x1536.Idx → F .f32) := by
  refine funext fun (y : S512x1536.Idx) => ?_
  show (V c main_v4 : S512x1536.Idx → F .f32) (((cfg1.win 2).blk (pointOf b)).view.emb y) = _
  refine congrArg (V c main_v4 : S512x1536.Idx → F .f32) (funext fun a => Fin.ext ?_)
  match a with
  | ⟨0, _⟩ => show (((((cfg1.win 2).blk (pointOf b)).view.emb y) 0 : Fin 512) : ℕ) = (y 0 : ℕ); blk_simp [index_2]
  | ⟨1, _⟩ => show (((((cfg1.win 2).blk (pointOf b)).view.emb y) 1 : Fin 1536) : ℕ) = (y 1 : ℕ); blk_simp [index_2]

theorem blk_rows : (inBlk V c 3 (pointOf b) : Vec F S512x32 .bf16) = (V c main_v13 : S512x32.Idx → F .bf16) := by
  refine funext fun (y : S512x32.Idx) => ?_
  show (V c main_v13 : S512x32.Idx → F .bf16) (((cfg1.win 3).blk (pointOf b)).view.emb y) = _
  refine congrArg (V c main_v13 : S512x32.Idx → F .bf16) (funext fun a => Fin.ext ?_)
  match a with
  | ⟨0, _⟩ => show (((((cfg1.win 3).blk (pointOf b)).view.emb y) 0 : Fin 512) : ℕ) = (y 0 : ℕ); blk_simp [index_3]
  | ⟨1, _⟩ => show (((((cfg1.win 3).blk (pointOf b)).view.emb y) 1 : Fin 32) : ℕ) = (y 1 : ℕ); blk_simp [index_3]

theorem blk_cols : (inBlk V c 4 (pointOf b) : Vec F S32x1536 .bf16) = (V c main_v22 : S32x1536.Idx → F .bf16) := by
  refine funext fun (y : S32x1536.Idx) => ?_
  show (V c main_v22 : S32x1536.Idx → F .bf16) (((cfg1.win 4).blk (pointOf b)).view.emb y) = _
  refine congrArg (V c main_v22 : S32x1536.Idx → F .bf16) (funext fun a => Fin.ext ?_)
  match a with
  | ⟨0, _⟩ => show (((((cfg1.win 4).blk (pointOf b)).view.emb y) 0 : Fin 32) : ℕ) = (y 0 : ℕ); blk_simp [index_4]
  | ⟨1, _⟩ => show (((((cfg1.win 4).blk (pointOf b)).view.emb y) 1 : Fin 1536) : ℕ) = (y 1 : ℕ); blk_simp [index_4]

end Blocks

/-! ## The arrays the call finds, and the kernel's result -/

section Arrays
variable {F : FTy → Type} [FloatOps F]
variable (m : (ℓ : Loc nD τ sig) → Buf (Elt F) ℓ) (d : Dev nD)

theorem V1_mask : V1 m d (Proc.devRef .tc main_v0) = maskBuf m d := Function.update_self _ _ _
theorem V1_ne (b : Ref sig .tc) (h : b ≠ main_v0) : V1 m d (Proc.devRef .tc b) = m ((SparseCore.T d).loc b) :=
  Function.update_of_ne (fun e => h (Proc.devRef_injective _ e)) _ _

theorem Vr_mask : Vr m d main_v0 = maskBuf m d := (host_keeps (V1 m d)).2.2.2.trans (V1_mask m d)
theorem Vr_img : Vr m d main_v23 = imgWords (m (xLoc d)) := (host_img (V1 m d)).trans (congrArg imgWords (V1_ne m d main_arg0 (by decide)))
theorem Vr_tok : Vr m d main_v4 = tokTile (m (tLoc d)) := (host_tok (V1 m d)).trans (congrArg tokTile (V1_ne m d main_arg1 (by decide)))
theorem Vr_rows : Vr m d main_v13 = rowsMat (F := F) := host_rows (V1 m d)
theorem Vr_cols : Vr m d main_v22 = colsMat (F := F) := host_cols (V1 m d)

/-- The result is the call's array with its last axis split. -/
theorem outOf_eq : outOf m d = shapeCast S64x512x512x3 (outArr (Vr m) d : S64x512x1536.Idx → F .f32) shapeCasts_S64x512x1536_S64x512x512x3 := by
  have h3 : V3 m d (Proc.devRef .tc main_v24) = outArr (Vr m) d := Vs_out m d
  unfold outOf V4
  generalize V3 m d = W at h3 ⊢
  after_results_simp
  rw [h3]
  rfl

end Arrays

theorem maskOf_word (idx : S64x1024.Idx → BitVec 32) (p : S64x32x32.Idx) : maskOf idx p = 0#32 ∨ maskOf idx p = 1#32 := by
  unfold maskOf
  split
  · exact .inr rfl
  · exact .inl rfl

theorem maskOf_one (idx : S64x1024.Idx → BitVec 32) (p : S64x32x32.Idx) :
    maskOf idx p = 1#32 ↔ ∃ n : Fin 1024, 768 ≤ n.val ∧ (idx (ix2 (p 0) n)).toNat = 32 * (p 1).val + (p 2).val := by
  unfold maskOf
  split
  · next h => exact ⟨fun _ => h, fun _ => rfl⟩
  · next h => exact ⟨fun e => absurd e (by decide), fun h' => absurd h' h⟩

theorem outOf_at (m : (ℓ : Loc nD τ sig) → Buf (Elt Ideal) ℓ) (d : Dev nD) (b : Fin 64) (h w : Fin 512) (c : Fin 3) (P : Prop) [Decidable P]
    (hP : P ↔ ∃ n : Fin 1024, 768 ≤ n.val ∧ ((m (aLoc d) : S64x1024.Idx → BitVec 32) (ix2 b n)).toNat = 32 * (h.val / 16) + w.val / 16) :
    (outOf m d : S64x512x512x3.Idx → Ideal .f32) (ix4 b h w c) = if P then (m (xLoc d) : S64x512x512x3.Idx → Ideal .f32) (ix4 b h w c)
      else (m (tLoc d) : S1x1x768.Idx → Ideal .f32) (ix3 0 0 ⟨h.val % 16 * 48 + w.val % 16 * 3 + c.val, by omega⟩) := by
  have hwl := w.isLt
  have hcl := c.isLt
  have e1 : (outOf m d : S64x512x512x3.Idx → Ideal .f32) (ix4 b h w c)
      = (outArr (Vr m) d : S64x512x1536.Idx → Ideal .f32) (ix3 b h (⟨w.val * 3 + c.val, by omega⟩ : Fin 1536)) := by
    rw [outOf_eq]
    simp only [pointwise]
  set q : Fin 1536 := ⟨w.val * 3 + c.val, by omega⟩ with hq
  have hqv : q.val = w.val * 3 + c.val := rfl
  have e2 : (outArr (Vr m) d : S64x512x1536.Idx → Ideal .f32) (ix3 b h q) = outBlk (Vr m) d (pointOf b) (ix3 0 h q) := rfl
  have hm : ∀ y : S1x32x32.Idx, (inBlk (Vr m) d 0 (pointOf b) : Vec Ideal S1x32x32 .i32) y = maskOf (m (aLoc d)) (ix3 b (y 1) (y 2)) := fun y => by
    rw [blk_mask, Vr_mask]; rfl
  have e3 := pay_at (inBlk (Vr m) d 0 (pointOf b)) (fun y => by rw [hm y]; exact maskOf_word _ _) (inBlk (Vr m) d 1 (pointOf b))
    (inBlk (Vr m) d 2 (pointOf b)) h q
  rw [e1, e2]
  unfold outBlk
  have er : (inBlk (Vr m) d 3 (pointOf b) : Vec Ideal S512x32 .bf16) = rowsMat (F := Ideal) := by rw [blk_rows, Vr_rows]
  have ec : (inBlk (Vr m) d 4 (pointOf b) : Vec Ideal S32x1536 .bf16) = colsMat (F := Ideal) := by rw [blk_cols, Vr_cols]
  refine (congrArg₂ (fun (u : Vec Ideal S512x32 .bf16) (v : Vec Ideal S32x1536 .bf16) =>
    k1_pay1 (F := Ideal) (inBlk (Vr m) d 0 (pointOf b)) u v (inBlk (Vr m) d 1 (pointOf b)) (inBlk (Vr m) d 2 (pointOf b)) (ix3 0 h q)) er ec).trans (e3.trans ?_)
  refine ite_congr (propext ?_) (fun _ => ?_) (fun _ => ?_)
  · rw [hm, maskOf_one, hP]
    refine exists_congr fun n => and_congr_right fun _ => ?_
    exact iff_of_eq (congrArg (fun k => ((m (aLoc d) : S64x1024.Idx → BitVec 32) (ix2 b n)).toNat = 32 * (h.val / 16) + k) (show q.val / 48 = w.val / 16 by omega))
  · rw [blk_img, Vr_img]
    show imgWords (F := Ideal) (m (xLoc d)) (ix3 b h q) = _
    unfold imgWords
    simp only [pointwise]
    refine congrArg (m (xLoc d) : S64x512x512x3.Idx → Ideal .f32) (funext fun a => ?_)
    match a with
    | ⟨0, _⟩ => rfl
    | ⟨1, _⟩ => rfl
    | ⟨2, _⟩ => exact Fin.ext (show q.val / 3 = w.val by omega)
    | ⟨3, _⟩ => exact Fin.ext (show q.val % 3 = c.val by omega)
  · rw [blk_tok, Vr_tok]
    unfold tokTile
    refine congrArg (m (tLoc d) : S1x1x768.Idx → Ideal .f32) (funext fun a => ?_)
    match a with
    | ⟨0, _⟩ => rfl
    | ⟨1, _⟩ => rfl
    | ⟨2, _⟩ => exact Fin.ext (show h.val % 16 * 48 + q.val % 48 = h.val % 16 * 48 + w.val % 16 * 3 + c.val by omega)

end Cert.KernelIdeal.Mask

end
-- ==== Proof.RefValue.lean ====
/- The reference's result read at an index, for indices that are a permutation in every row. -/
module

public import proofs.«01_k».proof.Proof.Gen.ReferenceIdeal.Run
public import Idealize.ShloMosaic.Lib.Pointwise
public import Idealize.ShloMosaic.Lib.Routing.OpsSet

@[expose] public section

noncomputable section

namespace Cert.ReferenceIdeal.Read

open Cert.ReferenceIdeal Cert.ReferenceIdeal.Gen
open Idealize.ShloMosaic

variable {F : FTy → Type} [FloatOps F]

/-- The image cut in patches. -/
def patches (x : S64x512x512x3.Idx → F .f32) : S64x1024x768.Idx → F .f32 :=
  shapeCast _ (transpose S64x32x32x16x16x3 [0, 2, 4, 3, 5, 1] (shapeCast _ (transpose S64x3x512x512 [0, 3, 1, 2] x
    transposes_S64x512x512x3_S64x3x512x512_0_3_1_2) shapeCasts_S64x3x512x512_S64x3x32x16x32x16)
    transposes_S64x3x32x16x32x16_S64x32x32x16x16x3_0_2_4_3_5_1) shapeCasts_S64x32x32x16x16x3_S64x1024x768

/-- The patches put together to an image. -/
def unpatch (y : S64x1024x768.Idx → F .f32) : S64x512x512x3.Idx → F .f32 :=
  transpose S64x512x512x3 [0, 2, 3, 1] (shapeCast _ (transpose S64x3x32x16x32x16 [0, 5, 1, 3, 2, 4] (shapeCast _ y
    shapeCasts_S64x1024x768_S64x32x32x16x16x3) transposes_S64x32x32x16x16x3_S64x3x32x16x32x16_0_5_1_3_2_4)
    shapeCasts_S64x3x32x16x32x16_S64x3x512x512) transposes_S64x3x512x512_S64x512x512x3_0_2_3_1

theorem unpatch_at (y : S64x1024x768.Idx → F .f32) (b : Fin 64) (h w : Fin 512) (c : Fin 3) :
    unpatch y (ix4 b h w c) = y (ix3 b ⟨h.val / 16 * 32 + w.val / 16, by omega⟩ ⟨h.val % 16 * 48 + w.val % 16 * 3 + c.val, by omega⟩) := by
  unfold unpatch
  simp only [pointwise]

theorem patches_at (x : S64x512x512x3.Idx → F .f32) (b : Fin 64) (n : Fin 1024) (k : Fin 768) :
    patches x (ix3 b n k) = x (ix4 b ⟨n.val / 32 * 16 + k.val / 48, by omega⟩ ⟨n.val % 32 * 16 + k.val / 3 % 16, by omega⟩ ⟨k.val % 3, by omega⟩) := by
  unfold patches
  simp only [pointwise]

/-- The sample's number, as the host computes it. -/
def batchWord : IVec S64x1 32 :=
  select (cmpi .slt (broadcastInDim S64x1 ![0] bcast_S64_S64x1_0 (iotaInDim S64 32 0)) (broadcastInDim S64x1 ![] bcast_S_S64x1 (constantI S_ 32 0#32)))
    (addi (broadcastInDim S64x1 ![0] bcast_S64_S64x1_0 (iotaInDim S64 32 0)) (broadcastInDim S64x1 ![] bcast_S_S64x1 (constantI S_ 32 64#32)))
    (broadcastInDim S64x1 ![0] bcast_S64_S64x1_0 (iotaInDim S64 32 0))

theorem batchWord_at (b : Fin 64) : batchWord (ix2 b 0) = BitVec.ofNat 32 b.val :=
  Routing.wrap_of_lt (BitVec.ofNat 32 b.val) _ (by have := b.isLt; rw [BitVec.toNat_ofNat]; omega)

/-- The pairs of words the scatter reads: the sample and the patch. -/
def putIdx (a : IVec S64x1024 32) : IVec S64x1024x2 32 :=
  concatenate S64x1024x2 2 [⟨S64x1024x1, broadcastInDim S64x1024x1 ![0, 1] bcast_S64x1024_S64x1024x1_0_1 (broadcastInDim S64x1024 ![0, 1] bcast_S64x1_S64x1024_0_1 batchWord)⟩,
    ⟨S64x1024x1, broadcastInDim S64x1024x1 ![0, 1] bcast_S64x1024_S64x1024x1_0_1 (select (cmpi .slt a (broadcastInDim S64x1024 ![] bcast_S_S64x1024 (constantI S_ 32 0#32)))
      (addi a (broadcastInDim S64x1024 ![] bcast_S_S64x1024 (constantI S_ 32 1024#32))) a)⟩] concatenates_S64x1024x1_S64x1024x1_S64x1024x2_d2

theorem putIdx_0 (a : IVec S64x1024 32) (b : Fin 64) (n : Fin 1024) : putIdx a (ix3 b n 0) = BitVec.ofNat 32 b.val := by
  refine (concatenate_pair_apply_left (t := S64x1024x2) (s₁ := S64x1024x1) (s₂ := S64x1024x1) 2 _ _ _ (ix3 b n 0) rfl (ix3 b n 0) fun i => ?_).trans (Eq.trans ?_ (batchWord_at b))
  · match i with
    | ⟨0, _⟩ => rfl
    | ⟨1, _⟩ => rfl
    | ⟨2, _⟩ => rfl
  · simp only [pointwise]; rfl

theorem putIdx_1 (a : IVec S64x1024 32) (b : Fin 64) (n : Fin 1024) (h : (a (ix2 b n)).toNat < 1024) : putIdx a (ix3 b n 1) = a (ix2 b n) := by
  refine (concatenate_pair_apply_right (t := S64x1024x2) (s₁ := S64x1024x1) (s₂ := S64x1024x1) 2 _ _ _ (ix3 b n 1) rfl rfl (ix3 b n 0) (fun i hi => ?_) rfl).trans (Eq.trans ?_ (Routing.wrap_of_lt (a (ix2 b n)) (a (ix2 b n) + 1024#32) (by omega)))
  · match i with
    | ⟨0, _⟩ => rfl
    | ⟨1, _⟩ => rfl
    | ⟨2, _⟩ => exact absurd rfl hi
  · simp only [pointwise]; rfl

/-- The pairs of words the gather reads: the sample and the patch. -/
def takeIdx (a : IVec S64x1024 32) : IVec S64x256x2 32 :=
  concatenate S64x256x2 2 [⟨S64x256x1, broadcastInDim S64x256x1 ![0, 1] bcast_S64x256_S64x256x1_0_1 (broadcastInDim S64x256 ![0, 1] bcast_S64x1_S64x256_0_1 batchWord)⟩,
    ⟨S64x256x1, broadcastInDim S64x256x1 ![0, 1] bcast_S64x256_S64x256x1_0_1 (select (cmpi .slt (extractStridedSlice S64x256 ![0, 768] a slices_S64x1024_S64x256_0_768)
      (broadcastInDim S64x256 ![] bcast_S_S64x256 (constantI S_ 32 0#32)))
      (addi (extractStridedSlice S64x256 ![0, 768] a slices_S64x1024_S64x256_0_768) (broadcastInDim S64x256 ![] bcast_S_S64x256 (constantI S_ 32 1024#32)))
      (extractStridedSlice S64x256 ![0, 768] a slices_S64x1024_S64x256_0_768))⟩] concatenates_S64x256x1_S64x256x1_S64x256x2_d2

theorem takeIdx_0 (a : IVec S64x1024 32) (b : Fin 64) (n : Fin 256) : takeIdx a (ix3 b n 0) = BitVec.ofNat 32 b.val := by
  refine (concatenate_pair_apply_left (t := S64x256x2) (s₁ := S64x256x1) (s₂ := S64x256x1) 2 _ _ _ (ix3 b n 0) rfl (ix3 b n 0) fun i => ?_).trans (Eq.trans ?_ (batchWord_at b))
  · match i with
    | ⟨0, _⟩ => rfl
    | ⟨1, _⟩ => rfl
    | ⟨2, _⟩ => rfl
  · simp only [pointwise]; rfl

theorem takeIdx_1 (a : IVec S64x1024 32) (b : Fin 64) (n : Fin 256) (n' : Fin 1024) (hn : n'.val = 768 + n.val) (h : (a (ix2 b n')).toNat < 1024) :
    takeIdx a (ix3 b n 1) = a (ix2 b n') := by
  have hs : extractStridedSlice S64x256 ![0, 768] a slices_S64x1024_S64x256_0_768 (ix2 b n) = a (ix2 b n') := by
    refine Eq.trans (b := a (ix2 b ⟨768 + n.val, by have := n.isLt; omega⟩)) ?_ (congrArg (fun k => a (ix2 b k)) (Fin.ext hn.symm))
    simp only [pointwise]
    refine congrArg a (funext fun i => ?_)
    match i with
    | ⟨0, _⟩ => exact Fin.ext (Nat.zero_add _)
    | ⟨1, _⟩ => rfl
  refine (concatenate_pair_apply_right (t := S64x256x2) (s₁ := S64x256x1) (s₂ := S64x256x1) 2 _ _ _ (ix3 b n 1) rfl rfl (ix3 b n 0) (fun i hi => ?_) rfl).trans (Eq.trans ?_ (Routing.wrap_of_lt (a (ix2 b n')) (a (ix2 b n') + 1024#32) (by omega)))
  · match i with
    | ⟨0, _⟩ => rfl
    | ⟨1, _⟩ => rfl
    | ⟨2, _⟩ => exact absurd rfl hi
  · rw [← hs]; simp only [pointwise]; rfl

abbrev dPut := scatter_S64x1024x768_S64x1024x2_S64x1024x768_2_01_01_2
abbrev dTake := gather_S64x1024x768_S64x256x2_S64x256x768_2_01_n_n_01_2_11768

theorem word_toInt {n : Nat} (h : n < 1024) : (BitVec.ofNat 32 n).toInt = (n : Int) := StableHlo.Predicate.toInt_ofNat_small _ (by omega)

/-- Where an update lands: the sample and the patch its pair of words names, and its own place in the patch. -/
theorem put_lands (k : S64x1024x768.Idx) (idx : IVec S64x1024x2 32) (b : Fin 64) (p : Fin 1024) (q : Fin 768) :
    dPut.resultIdx? k idx = some (ix3 b p q)
      ↔ (idx (ix3 (k 0) (k 1) 0)).toInt = b.val ∧ (idx (ix3 (k 0) (k 1) 1)).toInt = p.val ∧ (k 2).val = q.val := by
  have si : ∀ c : Fin 2, dPut.siIdx k c = ix3 (k 0) (k 1) c := fun c => by
    funext i
    match i with
    | ⟨0, _⟩ => rfl
    | ⟨1, _⟩ => rfl
    | ⟨2, _⟩ => rfl
  have s0 : dPut.start k idx 0 = (idx (ix3 (k 0) (k 1) 0)).toInt := congrArg (fun i => (idx i).toInt) (si 0)
  have s1 : dPut.start k idx 1 = (idx (ix3 (k 0) (k 1) 1)).toInt := congrArg (fun i => (idx i).toInt) (si 1)
  have s2 : dPut.start k idx 2 = 0 := rfl
  have w0 : dPut.window k 0 = 0 := rfl
  have w1 : dPut.window k 1 = 0 := rfl
  have w2 : dPut.window k 2 = (k 2).val := rfl
  rw [Routing.resultIdx?_eq_some]
  constructor
  · intro h
    have h0 := h 0
    have h1 := h 1
    have h2 := h 2
    rw [s0, w0] at h0
    rw [s1, w1] at h1
    rw [s2, w2] at h2
    change _ = ((b.val : Nat) : Int) at h0
    change _ = ((p.val : Nat) : Int) at h1
    change _ = ((q.val : Nat) : Int) at h2
    omega
  · rintro ⟨h0, h1, h2⟩ i
    match i with
    | ⟨0, _⟩ => exact (congrArg₂ (fun (x : Int) (y : Nat) => x + y) s0 w0).trans ((Int.add_zero _).trans h0)
    | ⟨1, _⟩ => exact (congrArg₂ (fun (x : Int) (y : Nat) => x + y) s1 w1).trans ((Int.add_zero _).trans h1)
    | ⟨2, _⟩ => exact (congrArg₂ (fun (x : Int) (y : Nat) => x + y) s2 w2).trans ((Int.zero_add _).trans (congrArg Nat.cast h2))

/-- The gather at a pair of words in range: the patch they name. -/
theorem take_at (y : S64x1024x768.Idx → F .f32) (idx : IVec S64x256x2 32) (b : Fin 64) (n : Fin 256) (q : Fin 768) (b' : Fin 64) (p : Fin 1024)
    (h0 : idx (ix3 b n 0) = BitVec.ofNat 32 b'.val) (h1 : idx (ix3 b n 1) = BitVec.ofNat 32 p.val) :
    Host.gather dTake y idx (ix3 b n q) = y (ix3 b' p q) := by
  have si : ∀ c : Fin 2, dTake.siIdx (ix3 b n q) c = ix3 b n c := fun c => by
    funext i
    match i with
    | ⟨0, _⟩ => rfl
    | ⟨1, _⟩ => rfl
    | ⟨2, _⟩ => rfl
  have s0 : dTake.start (ix3 b n q) idx 0 = b'.val := by
    refine (congrArg (fun i => min (idx i).toInt.toNat 63) (si 0)).trans ?_
    have := b'.isLt
    simp only [h0, word_toInt (show b'.val < 1024 by omega), Int.toNat_natCast]
    omega
  have s1 : dTake.start (ix3 b n q) idx 1 = p.val := by
    refine (congrArg (fun i => min (idx i).toInt.toNat 1023) (si 1)).trans ?_
    have := p.isLt
    simp only [h1, word_toInt p.isLt, Int.toNat_natCast]
    omega
  refine congrArg y (funext fun i => Fin.ext ?_)
  match i with
  | ⟨0, _⟩ => exact s0
  | ⟨1, _⟩ => exact s1
  | ⟨2, _⟩ => exact Nat.zero_add _

/-- The patches in the order of the indices: the token for the first 768, the image's own for the others. -/
def rows (x : S64x512x512x3.Idx → F .f32) (tok : S1x1x768.Idx → F .f32) (a : IVec S64x1024 32) : S64x1024x768.Idx → F .f32 :=
  concatenate S64x1024x768 1 [⟨S64x768x768, broadcastInDim S64x768x768 ![0, 1, 2] bcast_S1x1x768_S64x768x768_0_1_2 tok⟩,
    ⟨S64x256x768, Host.gather dTake (patches x) (takeIdx a)⟩] concatenates_S64x768x768_S64x256x768_S64x1024x768_d1

theorem rows_at (x : S64x512x512x3.Idx → F .f32) (tok : S1x1x768.Idx → F .f32) (a : IVec S64x1024 32) (b : Fin 64) (n : Fin 1024) (p : Fin 1024)
    (q : Fin 768) (hp : (a (ix2 b n)).toNat = p.val) :
    rows x tok a (ix3 b n q) = if 768 ≤ n.val then patches x (ix3 b p q) else tok (ix3 0 0 q) := by
  have hpl := p.isLt
  by_cases hn : 768 ≤ n.val
  · rw [if_pos hn]
    have hnl := n.isLt
    refine (concatenate_pair_apply_right (t := S64x1024x768) (s₁ := S64x768x768) (s₂ := S64x256x768) 1 _ _ _ (ix3 b n q) rfl rfl (ix3 b (⟨n.val - 768, by omega⟩ : Fin 256) q) (fun i hi => ?_)
      (show n.val - 768 + 768 = n.val by omega)).trans
      (take_at _ _ _ _ _ b p (takeIdx_0 _ _ _) ((takeIdx_1 a b _ n (by show n.val = 768 + (n.val - 768); omega) (by omega)).trans ?_))
    · match i with
      | ⟨0, _⟩ => rfl
      | ⟨1, _⟩ => exact absurd rfl hi
      | ⟨2, _⟩ => rfl
    · rw [← hp]; simp
  · rw [if_neg hn]
    refine (concatenate_pair_apply_left (t := S64x1024x768) (s₁ := S64x768x768) (s₂ := S64x256x768) 1 _ _ _ (ix3 b n q) rfl (ix3 b (⟨n.val, by omega⟩ : Fin 768) q) fun i => ?_).trans ?_
    · match i with
      | ⟨0, _⟩ => rfl
      | ⟨1, _⟩ => rfl
      | ⟨2, _⟩ => rfl
    · simp only [pointwise]; rfl

/-- The patches at their places. -/
def placed (x : S64x512x512x3.Idx → F .f32) (tok : S1x1x768.Idx → F .f32) (a : IVec S64x1024 32) : S64x1024x768.Idx → F .f32 :=
  Host.scatter dPut (fun _ b => b) (broadcastInDim S64x1024x768 ![] bcast_S_S64x1024x768 (constant S_ .f32 0x00000000#32)) (putIdx a) (rows x tok a)

/-- Where row `b` is the permutation `e`, patch `e n` is the `n`th of the rows. -/
theorem placed_at (x : S64x512x512x3.Idx → F .f32) (tok : S1x1x768.Idx → F .f32) (a : IVec S64x1024 32)
    (hlt : ∀ b n, (a (ix2 b n)).toNat < 1024) (b : Fin 64)
    (e : Fin 1024 ≃ Fin 1024) (he : ∀ n, (a (ix2 b n)).toNat = (e n).val) (n : Fin 1024) (q : Fin 768) :
    placed x tok a (ix3 b (e n) q) = rows x tok a (ix3 b n q) := by
  have words : ∀ (b : Fin 64) (n : Fin 1024), (putIdx a (ix3 b n 0)).toInt = b.val ∧ (putIdx a (ix3 b n 1)).toInt = ((a (ix2 b n)).toNat : Int) := fun b n => by
    have hb := b.isLt
    refine ⟨by rw [putIdx_0, word_toInt (by omega)], ?_⟩
    rw [putIdx_1 a b n (hlt b n)]
    exact BitVec.toInt_eq_toNat_of_lt (by have := hlt b n; omega)
  refine Routing.scatter_set_hit dPut _ (putIdx a) (rows x tok a) _ _ (fun k hk => ?_) (ix3 b n q) ?_
  · obtain ⟨h0, h1, h2⟩ := (put_lands _ _ _ _ _).1 hk
    rw [(words (k 0) (k 1)).1] at h0
    rw [(words (k 0) (k 1)).2] at h1
    have e0 : k 0 = b := Fin.ext (by exact_mod_cast h0)
    have e2 : k 2 = q := Fin.ext h2
    have e1 : k 1 = n := by
      rw [e0, he (k 1)] at h1
      exact e.injective (Fin.ext (by exact_mod_cast h1))
    exact congrArg (rows x tok a) (funext fun i => by
      match i with
      | ⟨0, _⟩ => exact e0
      | ⟨1, _⟩ => exact e1
      | ⟨2, _⟩ => exact e2)
  · refine (put_lands _ _ _ _ _).2 ⟨(words b n).1, (words b n).2.trans ?_, rfl⟩
    rw [he n]

/-- The reference's result. -/
def out (x : S64x512x512x3.Idx → F .f32) (tok : S1x1x768.Idx → F .f32) (a : IVec S64x1024 32) : S64x512x512x3.Idx → F .f32 :=
  unpatch (placed x tok a)

/-- The result at a word: the image's where the patch is one of the last 256 of its row, else the token's. -/
theorem out_at (x : S64x512x512x3.Idx → F .f32) (tok : S1x1x768.Idx → F .f32) (a : IVec S64x1024 32)
    (hp : ∀ b : Fin 64, ∃ e : Fin 1024 ≃ Fin 1024, ∀ n, (a (ix2 b n)).toNat = (e n).val) (b : Fin 64) (h w : Fin 512) (c : Fin 3) (P : Prop) [Decidable P]
    (hP : P ↔ ∃ n : Fin 1024, 768 ≤ n.val ∧ (a (ix2 b n)).toNat = 32 * (h.val / 16) + w.val / 16) :
    out x tok a (ix4 b h w c) = if P then x (ix4 b h w c)
      else tok (ix3 0 0 ⟨h.val % 16 * 48 + w.val % 16 * 3 + c.val, by omega⟩) := by
  have hlt : ∀ b n, (a (ix2 b n)).toNat < 1024 := fun b n => by
    obtain ⟨e, he⟩ := hp b
    rw [he n]; exact (e n).isLt
  obtain ⟨e, he⟩ := hp b
  have hhl := h.isLt
  have hwl := w.isLt
  have hcl := c.isLt
  set p : Fin 1024 := ⟨h.val / 16 * 32 + w.val / 16, by omega⟩ with hpd
  have hpe : p = e (e.symm p) := (e.apply_symm_apply p).symm
  have hPn : P ↔ 768 ≤ (e.symm p).val := by
    rw [hP]
    constructor
    · rintro ⟨n, hn, han⟩
      have : e n = p := Fin.ext (by rw [← he n, han, hpd]; simp only; omega)
      rw [← this, e.symm_apply_apply]; exact hn
    · intro hn
      refine ⟨e.symm p, hn, ?_⟩
      rw [he, e.apply_symm_apply, hpd]; simp only; omega
  refine (unpatch_at _ b h w c).trans ?_
  refine (congrArg (fun i => placed x tok a (ix3 b i _)) hpe).trans ?_
  rw [placed_at x tok a hlt b e he, rows_at x tok a b (e.symm p) p _ (by rw [he, e.apply_symm_apply]), patches_at]
  refine if_congr hPn.symm (congrArg x ?_) rfl
  have hpv : p.val = h.val / 16 * 32 + w.val / 16 := rfl
  funext i
  match i with
  | ⟨0, _⟩ => rfl
  | ⟨1, _⟩ => exact Fin.ext (show p.val / 32 * 16 + (h.val % 16 * 48 + w.val % 16 * 3 + c.val) / 48 = h.val by omega)
  | ⟨2, _⟩ => exact Fin.ext (show p.val % 32 * 16 + (h.val % 16 * 48 + w.val % 16 * 3 + c.val) / 3 % 16 = w.val by omega)
  | ⟨3, _⟩ => exact Fin.ext (show (h.val % 16 * 48 + w.val % 16 * 3 + c.val) % 3 = c.val by omega)

open TcCoe Idealize.SL.Sem in
/-- The reference's run, its result named. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  unfold out unpatch placed rows patches putIdx takeIdx batchWord
  exact Value.run m ρ

end Cert.ReferenceIdeal.Read

end
-- ==== Proof.Value.lean ====
/- The kernel and the reference, idealized, leave the same result. -/
module

public import proofs.«01_k».proof.Defs
public import proofs.«01_k».proof.Proof.Frames
public import proofs.«01_k».proof.Proof.KernelValue
public import proofs.«01_k».proof.Proof.RefValue
public import proofs.«01_k».proof.Proof.Perm

@[expose] public section

noncomputable section

namespace Cert.Value

open Idealize.ShloMosaic Idealize.ShloMosaic.TcCoe
open Idealize.SL.Sem
open Cert.KernelIdeal.Mask (outOf xLoc tLoc aLoc QC)

/-- The reference's value at the kernel's arguments is the kernel's result. -/
theorem out_eq (m : (ℓ : Loc Cert.KernelIdeal.nD Cert.KernelIdeal.τ Cert.KernelIdeal.sig) → Buf (Elt Ideal) ℓ) (h : Cert.Pre_KernelIdeal m) (d : Dev Cert.KernelIdeal.nD) :
    Cert.ReferenceIdeal.Read.out (F := Ideal) (m (xLoc d)) (m (tLoc d)) (m (aLoc d)) = outOf m d := by
  classical
  have hp : ∀ b : Fin 64, ∃ e : Fin 1024 ≃ Fin 1024, ∀ n, ((m (aLoc d) : Cert.KernelIdeal.S64x1024.Idx → BitVec 32) (ix2 b n)).toNat = (e n).val :=
    Cert.Permutations.perm_of_pre _ _ _ (h d)
  funext i
  obtain ⟨b, r, w, c, rfl⟩ : ∃ (b : Fin 64) (r w : Fin 512) (c : Fin 3), i = ix4 b r w c := ⟨i 0, i 1, i 2, i 3, (ix4_eta i).symm⟩
  exact (Cert.ReferenceIdeal.Read.out_at (F := Ideal) (m (xLoc d)) (m (tLoc d)) (m (aLoc d)) hp b r w c _ Iff.rfl).trans
    (Cert.KernelIdeal.Mask.outOf_at m d b r w c _ Iff.rfl).symm

theorem algebraic : Cert.algebraic_KernelIdeal_ReferenceIdeal := fun m g m' g' h hm => by
  refine ⟨fun c => outOf m c, ?_, ?_⟩
  · exact (θ_run (Cert.KernelIdeal.defs (F := Ideal)) _ _).mono (fun r (h : QC (F := Ideal) m r) => h.1)
      (Cert.KernelIdeal.Mask.run_main (F := Ideal) m g (Cert.Frames.preOK m h))
  · refine (θ_run Cert.ReferenceIdeal.defs _ _).mono (fun r hr c => ?_) (Cert.ReferenceIdeal.Read.run_out (F := Ideal) m' g')
    refine ⟨(hr c).1.trans ?_, (hr c).2⟩
    obtain ⟨h0, h1, h2⟩ := hm c
    rw [h0, h1, h2]
    exact out_eq m h c

end Cert.Value

end
-- ==== Proof.lean ====
/- The certificate's claims, from the modules that prove them. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_permutations
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_permutations.Gen.facts,
  Cert.Frames.frame_kernel, Cert.Frames.frame_kernelIdeal, Cert.Frames.frame_reference, Cert.Frames.frame_reference_pre, trivial, Cert.Value.algebraic⟩

end Cert.Proof

end
